-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_below_top_KernelIdeal [hPre_decay_below_top_KernelIdeal : Cert.Pre_decay_below_top_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_decay_below_top_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_below_top_ReferenceIdeal [hPre_decay_below_top_ReferenceIdeal : Cert.Pre_decay_below_top_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_below_top_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay_below_top_KernelIdeal [hKernelIdeal : Cert.KernelIdeal.Facts] [hPre_decay_below_top_KernelIdeal : Cert.Pre_decay_below_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_below_top_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay_below_top_ReferenceIdeal [hReferenceIdeal : Cert.ReferenceIdeal.Facts] [hPre_decay_below_top_ReferenceIdeal : Cert.Pre_decay_below_top_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_below_top_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_decay_below_top_KernelIdeal [hKernelIdeal : Cert.KernelIdeal.Facts] [hReferenceIdeal : Cert.ReferenceIdeal.Facts] [hPre_decay_below_top_KernelIdeal : Cert.Pre_decay_below_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_below_top_KernelIdeal m →
    (∀ c : Dev Cert.KernelIdeal.nD,
      m ((c.tc : Thread Cert.KernelIdeal.nD Cert.KernelIdeal.τ).loc Cert.KernelIdeal.main_arg0) = Layout.blockN ⟨3, ![8, 512, 512]⟩ ⟨3, ![8, 1024, 512]⟩ (Layout.meshBlock [2, 2] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![8, 512, 16]⟩ ⟨3, ![8, 1024, 16]⟩ (Layout.meshBlock [2, 2] ![[], [1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 512, 16]⟩ ⟨3, ![8, 1024, 16]⟩ (Layout.meshBlock [2, 2] ![[], [1], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = Layout.blockN ⟨3, ![8, 512, 512]⟩ ⟨3, ![8, 1024, 512]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_decay_below_top_KernelIdeal : Cert.Pre_decay_below_top_KernelIdeal.Facts) (hPre_decay_below_top_ReferenceIdeal : Cert.Pre_decay_below_top_ReferenceIdeal.Facts),
    quiescent_Kernel (hKernel := hKernel)
    ∧ quiescent_KernelIdeal (hKernelIdeal := hKernelIdeal)
    ∧ quiescent_KernelIdeal_pre_decay_below_top_KernelIdeal (hKernelIdeal := hKernelIdeal) (hPre_decay_below_top_KernelIdeal := hPre_decay_below_top_KernelIdeal)
    ∧ quiescent_ReferenceIdeal (hReferenceIdeal := hReferenceIdeal)
    ∧ quiescent_ReferenceIdeal_pre_decay_below_top_ReferenceIdeal (hReferenceIdeal := hReferenceIdeal) (hPre_decay_below_top_ReferenceIdeal := hPre_decay_below_top_ReferenceIdeal)
    ∧ preserves_Kernel_KernelIdeal
    ∧ algebraic_KernelIdeal_ReferenceIdeal_pre_decay_below_top_KernelIdeal (hKernelIdeal := hKernelIdeal) (hReferenceIdeal := hReferenceIdeal) (hPre_decay_below_top_KernelIdeal := hPre_decay_below_top_KernelIdeal)
-- ==== Pre_decay_below_top_KernelIdeal.lean ====
abbrev S8x512x512 : Shape := ⟨3, ![8, 512, 512]⟩
abbrev S512x16 : Shape := ⟨2, ![512, 16]⟩
abbrev S8x512x16 : Shape := ⟨3, ![8, 512, 16]⟩
abbrev S_ : Shape := ⟨0, ![]⟩

class Facts : Prop where
  bitsLt_bf16_f32 : FTy.bits .bf16 < FTy.bits .f32
  bcast_S_S512x16 : S_.BroadcastsInDim S512x16 (![] : Fin 0 → Fin S512x16.rank)

variable [Facts]

def fn {F : FTy → Type} [FloatOps F] (main_arg0 : FVec F S8x512x512 .bf16) (main_arg1 : FVec F S512x16 .bf16) (main_arg2 : FVec F S8x512x16 .bf16) (main_arg3 : FVec F S8x512x16 .bf16) : IVec S512x16 1 :=
  let main_v0 : FVec F S512x16 .f32 := (extf .f32 · bitsLt_bf16_f32) main_arg1
  let main_cst : FVec F S_ .f32 := constant S_ .f32 0x7F800000#32
  let main_v1 : FVec F S512x16 .f32 := broadcastInDim S512x16 ![] bcast_S_S512x16 main_cst
  let main_v2 : IVec S512x16 1 := cmpf .olt main_v0 main_v1
  main_v2
-- ==== Pre_decay_below_top_ReferenceIdeal.lean ====
abbrev S8x1024x512 : Shape := ⟨3, ![8, 1024, 512]⟩
abbrev S512x16 : Shape := ⟨2, ![512, 16]⟩
abbrev S8x1024x16 : Shape := ⟨3, ![8, 1024, 16]⟩
abbrev S_ : Shape := ⟨0, ![]⟩

class Facts : Prop where
  bitsLt_bf16_f32 : FTy.bits .bf16 < FTy.bits .f32
  bcast_S_S512x16 : S_.BroadcastsInDim S512x16 (![] : Fin 0 → Fin S512x16.rank)

variable [Facts]

def fn {F : FTy → Type} [FloatOps F] (main_arg0 : FVec F S8x1024x512 .bf16) (main_arg1 : FVec F S512x16 .bf16) (main_arg2 : FVec F S8x1024x16 .bf16) (main_arg3 : FVec F S8x1024x16 .bf16) : IVec S512x16 1 :=
  let main_v0 : FVec F S512x16 .f32 := (extf .f32 · bitsLt_bf16_f32) main_arg1
  let main_cst : FVec F S_ .f32 := constant S_ .f32 0x7F800000#32
  let main_v1 : FVec F S512x16 .f32 := broadcastInDim S512x16 ![] bcast_S_S512x16 main_cst
  let main_v2 : IVec S512x16 1 := cmpf .olt main_v0 main_v1
  main_v2
-- ==== Kernel.lean ====
abbrev S8x512x512 : Shape := ⟨3, ![8, 512, 512]⟩
abbrev S512x16 : Shape := ⟨2, ![512, 16]⟩
abbrev S8x512x16 : Shape := ⟨3, ![8, 512, 16]⟩
abbrev S_ : Shape := ⟨0, ![]⟩
abbrev S8x512x256 : Shape := ⟨3, ![8, 512, 256]⟩
abbrev S8x32x16x256 : Shape := ⟨4, ![8, 32, 16, 256]⟩
abbrev S8x32x16x16 : Shape := ⟨4, ![8, 32, 16, 16]⟩
abbrev S16x512 : Shape := ⟨2, ![16, 512]⟩
abbrev S16x256 : Shape := ⟨2, ![16, 256]⟩
abbrev S8x16x256 : Shape := ⟨3, ![8, 16, 256]⟩
abbrev S2 : Shape := ⟨1, ![2]⟩
abbrev S1x1x16x256 : Shape := ⟨4, ![1, 1, 16, 256]⟩
abbrev S1x16x256 : Shape := ⟨3, ![1, 16, 256]⟩
abbrev S8x32x1x256 : Shape := ⟨4, ![8, 32, 1, 256]⟩
abbrev S8x32x256 : Shape := ⟨3, ![8, 32, 256]⟩
abbrev S8x32x16x1 : Shape := ⟨4, ![8, 32, 16, 1]⟩
abbrev S8x32x16 : Shape := ⟨3, ![8, 32, 16]⟩
abbrev S8x1x16x256 : Shape := ⟨4, ![8, 1, 16, 256]⟩
abbrev S8x32x2x256 : Shape := ⟨4, ![8, 32, 2, 256]⟩
abbrev S1 : Shape := ⟨1, ![1]⟩
abbrev S8x32x8x256 : Shape := ⟨4, ![8, 32, 8, 256]⟩

abbrev nBuf : Space → Nat
  | .hbm => 59
  | .vmem => 9
  | .smem => 0
  | _ => 0

abbrev bufTy : (tb : Table) → Fin (tcTables nBuf tb) → BufTy
  | .hbm, ⟨0, _⟩ => ⟨S8x512x512, .bf16⟩
  | .hbm, ⟨1, _⟩ => ⟨S512x16, .bf16⟩
  | .hbm, ⟨2, _⟩ => ⟨S8x512x16, .bf16⟩
  | .hbm, ⟨3, _⟩ => ⟨S8x512x16, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8x512x256, .bf16⟩
  | .hbm, ⟨20, _⟩ => ⟨S8x32x16x256, .bf16⟩
  | .hbm, ⟨21, _⟩ => ⟨S8x32x16x16, .bf16⟩
  | .hbm, ⟨22, _⟩ => ⟨S8x32x16x16, .bf16⟩
  | .hbm, ⟨23, _⟩ => ⟨S8x32x16x16, .bf16⟩
  | .hbm, ⟨24, _⟩ => ⟨S8x32x16x16, .bf16⟩
  | .hbm, ⟨25, _⟩ => ⟨S512x16, .bf16⟩
  | .hbm, ⟨26, _⟩ => ⟨S16x512, .bf16⟩
  | .hbm, ⟨27, _⟩ => ⟨S_, .bf16⟩
  | .hbm, ⟨28, _⟩ => ⟨S512x16, .bf16⟩
  | .hbm, ⟨29, _⟩ => ⟨S512x16, .bf16⟩
  | .hbm, ⟨30, _⟩ => ⟨S512x16, .bf16⟩
  | .hbm, ⟨31, _⟩ => ⟨S16x512, .bf16⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S16x256, .bf16⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16x256, .bf16⟩
  | .hbm, ⟨50, _⟩ => ⟨S8x32x16x256, .bf16⟩
  | .hbm, ⟨51, _⟩ => ⟨S8x32x16x256, .bf16⟩
  | .hbm, ⟨52, _⟩ => ⟨S8x512x256, .bf16⟩
  | .hbm, ⟨53, _⟩ => ⟨S8x512x256, .bf16⟩
  | .hbm, ⟨54, _⟩ => ⟨S8x512x512, .bf16⟩
  | .hbm, ⟨55, _⟩ => ⟨S8x512x512, .bf16⟩
  | .hbm, ⟨56, _⟩ => ⟨S_, .i32⟩
  | .hbm, ⟨57, _⟩ => ⟨S_, .i1⟩
  | .hbm, ⟨58, _⟩ => ⟨S8x512x512, .bf16⟩
  | .local _ .vmem, ⟨0, _⟩ => ⟨S8x32x16x256, .bf16⟩
  | .local _ .vmem, ⟨1, _⟩ => ⟨S8x32x16x16, .bf16⟩
  | .local _ .vmem, ⟨2, _⟩ => ⟨S8x32x16x16, .bf16⟩
  | .local _ .vmem, ⟨3, _⟩ => ⟨S16x256, .bf16⟩
  | .local _ .vmem, ⟨4, _⟩ => ⟨S16x256, .bf16⟩
  | .local _ .vmem, ⟨5, _⟩ => ⟨S8x32x16x256, .bf16⟩
  | .local _ .vmem, ⟨6, _⟩ => ⟨S8x32x16x256, .bf16⟩
  | .local _ .vmem, ⟨7, _⟩ => ⟨S8x32x16x256, .bf16⟩
  | .local _ .vmem, ⟨8, _⟩ => ⟨S8x16x256, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 2 13 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_c_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_c_9 : Ref sig .tc := ⟨.hbm, 39, rfl⟩
abbrev main_v25 : Ref sig .tc := ⟨.hbm, 40, rfl⟩
abbrev main_c_10 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_c_12 : Ref sig .tc := ⟨.hbm, 45, rfl⟩
abbrev main_v28 : Ref sig .tc := ⟨.hbm, 46, rfl⟩
abbrev main_v29 : Ref sig .tc := ⟨.hbm, 47, rfl⟩
abbrev main_c_13 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_14 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v278 : BitVec 1 := Scalar.cmpi .eq v5 c1_i32_254
  let v279 : BitVec 32 := Scalar.extui v278
  let c0_i32_255 : BitVec 32 := 0#32
  let v280 : BitVec 1 := Scalar.cmpi .ne v279 c0_i32_255
  v280

def k0_dev3 (d0 : Dev nD) : Nat :=
  let c0_i32_985 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_984 : BitVec 32 := 2#32
  let v1123 : BitVec 32 := Scalar.muli v2 c2_i32_984
  let v1124 : BitVec 32 := Scalar.addi c0_i32_985 v1123
  let c0_i32_983 : BitVec 32 := 0#32
  let c1_i32_986 : BitVec 32 := 1#32
  let v1125 : BitVec 32 := Scalar.muli c0_i32_983 c1_i32_986
  let v1126 : BitVec 32 := Scalar.addi v1124 v1125
  v1126.toNat
def k0_cond3 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_502 : BitVec 32 := 0#32
  let v637 : BitVec 1 := Scalar.cmpi .eq v5 c0_i32_502
  let v638 : BitVec 32 := Scalar.extui v637
  let c0_i32_503 : BitVec 32 := 0#32
  let v639 : BitVec 1 := Scalar.cmpi .ne v638 c0_i32_503
  v639

def k0_dev4 (d0 : Dev nD) : Nat :=
  let c0_i32_980 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_979 : BitVec 32 := 2#32
  let v1119 : BitVec 32 := Scalar.muli v2 c2_i32_979
  let v1120 : BitVec 32 := Scalar.addi c0_i32_980 v1119
  let c1_i32_978 : BitVec 32 := 1#32
  let c1_i32_981 : BitVec 32 := 1#32
  let v1121 : BitVec 32 := Scalar.muli c1_i32_978 c1_i32_981
  let v1122 : BitVec 32 := Scalar.addi v1120 v1121
  v1122.toNat
def k0_dev5 (d0 : Dev nD) : Nat :=
  let c0_i32_706 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_705 : BitVec 32 := 2#32
  let v856 : BitVec 32 := Scalar.muli v6 c2_i32_705
  let v857 : BitVec 32 := Scalar.addi c0_i32_706 v856
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_707 : BitVec 32 := 1#32
  let v858 : BitVec 32 := Scalar.muli v5 c1_i32_707
  let v859 : BitVec 32 := Scalar.addi v857 v858
  v859.toNat
def k0_dev6 (d0 : Dev nD) : Nat :=
  let c0_i32_919 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_918 : BitVec 32 := 2#32
  let v1082 : BitVec 32 := Scalar.muli v6 c2_i32_918
  let v1083 : BitVec 32 := Scalar.addi c0_i32_919 v1082
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_920 : BitVec 32 := 1#32
  let v1084 : BitVec 32 := Scalar.muli v5 c1_i32_920
  let v1085 : BitVec 32 := Scalar.addi v1083 v1084
  v1085.toNat
abbrev stage0_0 : Fin 1 → Memref sig .tc .vmem S8x32x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x16x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32x16x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32x16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S8x1024x512 : Shape := ⟨3, ![8, 1024, 512]⟩
abbrev S512x16 : Shape := ⟨2, ![512, 16]⟩
abbrev S8x1024x16 : Shape := ⟨3, ![8, 1024, 16]⟩
abbrev S1x512x16 : Shape := ⟨3, ![1, 512, 16]⟩
abbrev S_ : Shape := ⟨0, ![]⟩
abbrev S8x512x16 : Shape := ⟨3, ![8, 512, 16]⟩
abbrev S8x1x512 : Shape := ⟨3, ![8, 1, 512]⟩
abbrev S8x512 : Shape := ⟨2, ![8, 512]⟩
abbrev S8x512x1 : Shape := ⟨3, ![8, 512, 1]⟩
abbrev S8x1x16 : Shape := ⟨3, ![8, 1, 16]⟩
abbrev S8x16 : Shape := ⟨2, ![8, 16]⟩

abbrev nBuf : Space → Nat
  | .hbm => 84
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S512x16, .bf16⟩
  | .hbm, ⟨2, _⟩ => ⟨S8x1024x16, .bf16⟩
  | .hbm, ⟨3, _⟩ => ⟨S8x1024x16, .bf16⟩
  | .hbm, ⟨4, _⟩ => ⟨S8x1024x512, .f32⟩
  | .hbm, ⟨5, _⟩ => ⟨S512x16, .f32⟩
  | .hbm, ⟨6, _⟩ => ⟨S8x1024x16, .f32⟩
  | .hbm, ⟨7, _⟩ => ⟨S8x1024x16, .f32⟩
  | .hbm, ⟨8, _⟩ => ⟨S512x16, .f32⟩
  | .hbm, ⟨9, _⟩ => ⟨S1x512x16, .f32⟩
  | .hbm, ⟨10, _⟩ => ⟨S_, .f32⟩
  | .hbm, ⟨11, _⟩ => ⟨S8x512x16, .f32⟩
  | .hbm, ⟨12, _⟩ => ⟨S_, .f32⟩
  | .hbm, ⟨13, _⟩ => ⟨S8x1024x512, .f32⟩
  | .hbm, ⟨14, _⟩ => ⟨S_, .i32⟩
  | .hbm, ⟨15, _⟩ => ⟨S_, .i32⟩
  | .hbm, ⟨16, _⟩ => ⟨S8x1024x512, .f32⟩
  | .hbm, ⟨17, _⟩ => ⟨S8x1024x16, .f32⟩
  | .hbm, ⟨18, _⟩ => ⟨S8x1024x16, .f32⟩
  | .hbm, ⟨19, _⟩ => ⟨S1x512x16, .f32⟩
  | .hbm, ⟨20, _⟩ => ⟨S_, .i32⟩
  | .hbm, ⟨21, _⟩ => ⟨S_, .i32⟩
  | .hbm, ⟨22, _⟩ => ⟨S8x512x16, .f32⟩
  | .hbm, ⟨23, _⟩ => ⟨S8x1024x512, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S8x1x512, .f32⟩
  | .hbm, ⟨37, _⟩ => ⟨S8x512, .f32⟩
  | .hbm, ⟨38, _⟩ => ⟨S8x512x1, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S8x1x16, .f32⟩
  | .hbm, ⟨48, _⟩ => ⟨S8x16, .f32⟩
  | .hbm, ⟨49, _⟩ => ⟨S8x1x16, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S8x1x16, .f32⟩
  | .hbm, ⟨59, _⟩ => ⟨S8x16, .f32⟩
  | .hbm, ⟨60, _⟩ => ⟨S8x1x16, .f32⟩
  | .hbm, ⟨61, _⟩ => ⟨S8x512x16, .f32⟩
  | .hbm, ⟨62, _⟩ => ⟨S8x512x16, .f32⟩
  | .hbm, ⟨63, _⟩ => ⟨S8x512x16, .f32⟩
  | .hbm, ⟨64, _⟩ => ⟨S8x512x16, .f32⟩
  | .hbm, ⟨65, _⟩ => ⟨S8x512x16, .f32⟩
  | .hbm, ⟨66, _⟩ => ⟨S8x512x16, .f32⟩
  | .hbm, ⟨67, _⟩ => ⟨S8x512x16, .f32⟩
  | .hbm, ⟨68, _⟩ => ⟨S8x512x16, .f32⟩
  | .hbm, ⟨69, _⟩ => ⟨S_, .f32⟩
  | .hbm, ⟨70, _⟩ => ⟨S8x512, .f32⟩
  | .hbm, ⟨71, _⟩ => ⟨S8x1x512, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S8x1024x512, .f32⟩
  | .hbm, ⟨81, _⟩ => ⟨S_, .i32⟩
  | .hbm, ⟨82, _⟩ => ⟨S_, .i32⟩
  | .hbm, ⟨83, _⟩ => ⟨S8x1024x512, .bf16⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_c_1 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_while0c_c_9 : Ref sig .tc := ⟨.hbm, 24, rfl⟩
abbrev main_while0c_v10 : Ref sig .tc := ⟨.hbm, 25, rfl⟩
abbrev main_while0b_c_9 : Ref sig .tc := ⟨.hbm, 26, rfl⟩
abbrev main_while0b_v10 : Ref sig .tc := ⟨.hbm, 27, rfl⟩
abbrev main_while0b_c_10 : Ref sig .tc := ⟨.hbm, 28, rfl⟩
abbrev main_while0b_v11 : Ref sig .tc := ⟨.hbm, 29, rfl⟩
abbrev main_while0b_v12 : Ref sig .tc := ⟨.hbm, 30, rfl⟩
abbrev main_while0b_c_11 : Ref sig .tc := ⟨.hbm, 31, rfl⟩
abbrev main_while0b_v13 : Ref sig .tc := ⟨.hbm, 32, rfl⟩
abbrev main_while0b_v14 : Ref sig .tc := ⟨.hbm, 33, rfl⟩
abbrev main_while0b_c_12 : Ref sig .tc := ⟨.hbm, 34, rfl⟩
abbrev main_while0b_c_13 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_c_14 : Ref sig .tc := ⟨.hbm, 39, rfl⟩
abbrev main_while0b_v18 : Ref sig .tc := ⟨.hbm, 40, rfl⟩
abbrev main_while0b_v19 : Ref sig .tc := ⟨.hbm, 41, rfl⟩
abbrev main_while0b_c_15 : Ref sig .tc := ⟨.hbm, 42, rfl⟩
abbrev main_while0b_v20 : Ref sig .tc := ⟨.hbm, 43, rfl⟩
abbrev main_while0b_v21 : Ref sig .tc := ⟨.hbm, 44, rfl⟩
abbrev main_while0b_c_16 : Ref sig .tc := ⟨.hbm, 45, rfl⟩
abbrev main_while0b_c_17 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_c_18 : Ref sig .tc := ⟨.hbm, 50, rfl⟩
abbrev main_while0b_v25 : Ref sig .tc := ⟨.hbm, 51, rfl⟩
abbrev main_while0b_v26 : Ref sig .tc := ⟨.hbm, 52, rfl⟩
abbrev main_while0b_c_19 : Ref sig .tc := ⟨.hbm, 53, rfl⟩
abbrev main_while0b_v27 : Ref sig .tc := ⟨.hbm, 54, rfl⟩
abbrev main_while0b_v28 : Ref sig .tc := ⟨.hbm, 55, rfl⟩
abbrev main_while0b_c_20 : Ref sig .tc := ⟨.hbm, 56, rfl⟩
abbrev main_while0b_c_21 : Ref sig .tc := ⟨.hbm, 57, rfl⟩
abbrev main_while0b_v29 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_cst_22 : Ref sig .tc := ⟨.hbm, 69, rfl⟩
abbrev main_while0b_v40 : Ref sig .tc := ⟨.hbm, 70, rfl⟩
abbrev main_while0b_v41 : Ref sig .tc := ⟨.hbm, 71, rfl⟩
abbrev main_while0b_c_23 : Ref sig .tc := ⟨.hbm, 72, rfl⟩
abbrev main_while0b_v42 : Ref sig .tc := ⟨.hbm, 73, rfl⟩
abbrev main_while0b_v43 : Ref sig .tc := ⟨.hbm, 74, rfl⟩
abbrev main_while0b_c_24 : Ref sig .tc := ⟨.hbm, 75, rfl⟩
abbrev main_while0b_v44 : Ref sig .tc := ⟨.hbm, 76, rfl⟩
abbrev main_while0b_v45 : Ref sig .tc := ⟨.hbm, 77, rfl⟩
abbrev main_while0b_c_25 : Ref sig .tc := ⟨.hbm, 78, rfl⟩
abbrev main_while0b_c_26 : Ref sig .tc := ⟨.hbm, 79, rfl⟩
abbrev main_while0b_v46 : Ref sig .tc := ⟨.hbm, 80, rfl⟩
abbrev main_while0b_c_27 : Ref sig .tc := ⟨.hbm, 81, rfl⟩
abbrev main_while0b_v47 : Ref sig .tc := ⟨.hbm, 82, rfl⟩
abbrev main_v9 : Ref sig .tc := ⟨.hbm, 83, rfl⟩

abbrev nD : Nat := 1
abbrev τ : Topo := Topo.v7x

variable {F : FTy → Type} [FloatOps F]

abbrev main_while0_count : Scf.Loop 32 := ⟨0#32, 1024#32, 1#32⟩
-- ==== Proof.KernelIdeal.Prog.lean ====
/- The kernel's body as loops: the sixteen time steps of each pass and the thirty-two carry steps are
   one symbolic step each, repeated. `body_eq` states that the printed body is this program. -/
module

public import proofs.«01_k».proof.Proof.Gen.KernelIdeal.Skeleton
public import Idealize.ShloMosaic.Lib.Pipeline.Regions

@[expose] public section

noncomputable section

namespace Cert.KernelIdeal.Scan

open Idealize.ShloMosaic Idealize.SL.Sem Cert.KernelIdeal.Gen

variable {F : FTy → Type} [FloatOps F]

/-- The effects of a program of the TensorCore over elements in `F`. -/
abbrev 𝔼 (F : FTy → Type) := TpuEff nD τ sig (Elt F) Λ₀ .tc

/-- Repeat a step at the places `k`, `k + 1`, … (`n` of them). -/
def times {E : Type → Type} {N : Nat} (step : Fin N → Prog E PUnit) : (n k : Nat) → n + k ≤ N → Prog E PUnit
  | 0, _, _ => pure ⟨⟩
  | n + 1, k, h => step ⟨k, by omega⟩ >>= fun _ => times step n (k + 1) (by omega)

/-- Repeat a step that passes a value on. -/
def timesV {E : Type → Type} {N : Nat} {α : Type} (step : Fin N → α → Prog E α) : (n k : Nat) → n + k ≤ N → α → Prog E α
  | 0, _, _, a => pure a
  | n + 1, k, h, a => step ⟨k, by omega⟩ a >>= fun b => timesV step n (k + 1) (by omega) b

/-! ## The rectangles of a step -/

theorem inb_x (t : Fin 16) : ∀ a, (![0, 0, t.val, 0] : Fin 4 → Nat) a + S8x32x1x256.size a ≤ S8x32x16x256.size a := by
  revert t; decide
theorem inb_b (t : Fin 16) : ∀ a, (![0, 0, 0, t.val] : Fin 4 → Nat) a + S8x32x16x1.size a ≤ S8x32x16x16.size a := by
  revert t; decide
theorem inb_r (k : Fin 32) : ∀ a, (![0, k.val, 0, 0] : Fin 4 → Nat) a + S8x1x16x256.size a ≤ S8x32x16x256.size a := by
  revert k; decide
theorem inb_y (t : Fin 16) : ∀ a, (![0, 0, t.val / 2 * 2, 0] : Fin 4 → Nat) a + S8x32x2x256.size a ≤ S8x32x16x256.size a := by
  revert t; decide
theorem slices_y (t : Fin 16) : S8x32x2x256.Slices ![0, 0, t.val % 2, 0] S8x32x1x256 := by
  revert t; decide

abbrev rW : Rect S8x32x16x256 := Rect.unit (s := S8x32x16x256) ![0, 0, 0, 0] S8x32x16x256.size inb_S8x32x16x256_S8x32x16x256_0_0_0_0
abbrev rH : Rect S8x16x256 := Rect.unit (s := S8x16x256) ![0, 0, 0] S8x16x256.size inb_S8x16x256_S8x16x256_0_0_0
abbrev rA : Rect S16x256 := Rect.unit (s := S16x256) ![0, 0] S16x256.size inb_S16x256_S16x256_0_0
abbrev rX (t : Fin 16) : Rect S8x32x16x256 := Rect.unit (s := S8x32x16x256) ![0, 0, t.val, 0] S8x32x1x256.size (inb_x t)
abbrev rB (t : Fin 16) : Rect S8x32x16x16 := Rect.unit (s := S8x32x16x16) ![0, 0, 0, t.val] S8x32x16x1.size (inb_b t)
abbrev rR (k : Fin 32) : Rect S8x32x16x256 := Rect.unit (s := S8x32x16x256) ![0, k.val, 0, 0] S8x1x16x256.size (inb_r k)
abbrev rY (t : Fin 16) : Rect S8x32x16x256 := Rect.unit (s := S8x32x16x256) ![0, 0, t.val / 2 * 2, 0] S8x32x2x256.size (inb_y t)

theorem packed_r (k : Fin 32) : (rR k).PackedRows (EltTy.packing .bf16) := by
  revert k; decide
theorem packed_y (t : Fin 16) : (rY t).PackedRows (EltTy.packing .bf16) := by
  revert t; decide

/-! ## The steps -/

section Steps

variable (arg0 : Memref sig .tc .vmem S8x32x16x256 .bf16) (arg1 : Memref sig .tc .vmem S8x32x16x16 .bf16) (arg2 : Memref sig .tc .vmem S8x32x16x16 .bf16)
  (arg5 : Memref sig .tc .vmem S8x32x16x256 .bf16) (harg5 : arg5.IsWhole) (arg7 : Memref sig .tc .vmem S8x32x16x256 .bf16) (harg7 : arg7.IsWhole)

/-- A step of the first pass: the running chunk sums decay and take the next time step. -/
def localStep (dA : FVec F S1x1x16x256 .bf16) (t : Fin 16) : Prog (𝔼 F) PUnit := do
  let g : Vec F S8x32x16x256 .bf16 ← Prog.lift (.load arg7 rW.toLoadRect (View.loadsAt_vmem h_S8x32x16x256))
  let x : Vec F S8x32x1x256 .bf16 ← Prog.lift (.load arg0 (rX t).toLoadRect (View.loadsAt_vmem h_S8x32x1x256))
  let b : Vec F S8x32x16x1 .bf16 ← Prog.lift (.load arg1 (rB t).toLoadRect (View.loadsAt_vmem h_S8x32x16x1))
  let _g' : Vec F S8x32x16x256 .bf16 ← Prog.lift (.load arg7 rW.toLoadRect (View.loadsAt_vmem h_S8x32x16x256))
  Prog.lift (.store arg7 rW (k0_pay6 dA g x b) Finset.univ (View.stores_vmem h_S8x32x16x256 (harg7.storeExact_slice rfl _ packedbf16_S8x32x16x256_S8x32x16x256_0_0_0_0) (fun _ => rfl)) (.inl rfl))

/-- A step of the carry loop: chunk `k`'s sum is replaced by the state it starts from, and the state moves on. -/
def carryStep (d16 : FVec F S1x16x256 .bf16) (k : Fin 32) (H : FVec F S8x16x256 .f32) : Prog (𝔼 F) (FVec F S8x16x256 .f32) := do
  let r : Vec F S8x1x16x256 .bf16 ← Prog.lift (.load arg7 (rR k).toLoadRect (View.loadsAt_vmem h_S8x1x16x256))
  let _r' : Vec F S8x1x16x256 .bf16 ← Prog.lift (.load arg7 (rR k).toLoadRect (View.loadsAt_vmem h_S8x1x16x256))
  Prog.lift (.store arg7 (rR k) (k0_pay30 H) Finset.univ (View.stores_vmem h_S8x1x16x256 (harg7.storeExact_slice rfl _ (packed_r k)) (fun _ => rfl)) (.inl rfl))
  pure (k0_pay32 H (k0_pay29 r) (k0_pay31 d16))

/-- A step of the second pass: the state moves on by a time step and its output row is stored. -/
def outStep (dA : FVec F S1x1x16x256 .bf16) (t : Fin 16) : Prog (𝔼 F) PUnit := do
  let g : Vec F S8x32x16x256 .bf16 ← Prog.lift (.load arg7 rW.toLoadRect (View.loadsAt_vmem h_S8x32x16x256))
  let x : Vec F S8x32x1x256 .bf16 ← Prog.lift (.load arg0 (rX t).toLoadRect (View.loadsAt_vmem h_S8x32x1x256))
  let b : Vec F S8x32x16x1 .bf16 ← Prog.lift (.load arg1 (rB t).toLoadRect (View.loadsAt_vmem h_S8x32x16x1))
  let _g' : Vec F S8x32x16x256 .bf16 ← Prog.lift (.load arg7 rW.toLoadRect (View.loadsAt_vmem h_S8x32x16x256))
  Prog.lift (.store arg7 rW (k0_pay118 (k0_pay115 dA g) (k0_pay116 x b)) Finset.univ (View.stores_vmem h_S8x32x16x256 (harg7.storeExact_slice rfl _ packedbf16_S8x32x16x256_S8x32x16x256_0_0_0_0) (fun _ => rfl)) (.inl rfl))
  let cc : Vec F S8x32x16x1 .bf16 ← Prog.lift (.load arg2 (rB t).toLoadRect (View.loadsAt_vmem h_S8x32x16x1))
  let _y : Vec F S8x32x1x256 .bf16 ← Prog.lift (.load arg5 (rX t).toLoadRect (View.loadsAt_vmem h_S8x32x1x256))
  storeSubelements arg5 (rY t) (fun old => updateSlice old (k0_pay119 (k0_pay115 dA g) (k0_pay116 x b) cc) ![0, 0, t.val % 2, 0] (slices_y t)) (View.loadsAt_vmem h_S8x32x2x256) (View.stores_vmem h_S8x32x2x256 (harg5.storeExact_slice rfl _ (packed_y t)) (fun _ => rfl))

end Steps

/-! ## The body -/

section Body

variable (arg0 : Memref sig .tc .vmem S8x32x16x256 .bf16) (harg0 : arg0.IsWhole) (arg1 : Memref sig .tc .vmem S8x32x16x16 .bf16) (harg1 : arg1.IsWhole)
  (arg2 : Memref sig .tc .vmem S8x32x16x16 .bf16) (harg2 : arg2.IsWhole) (arg3 : Memref sig .tc .vmem S16x256 .bf16) (harg3 : arg3.IsWhole)
  (arg4 : Memref sig .tc .vmem S16x256 .bf16) (harg4 : arg4.IsWhole) (arg5 : Memref sig .tc .vmem S8x32x16x256 .bf16) (harg5 : arg5.IsWhole)
  (arg6 : Memref sig .tc .vmem S8x32x16x256 .bf16) (harg6 : arg6.IsWhole) (arg7 : Memref sig .tc .vmem S8x32x16x256 .bf16) (harg7 : arg7.IsWhole)
  (arg8 : Memref sig .tc .vmem S8x16x256 .f32) (harg8 : arg8.IsWhole) (arg9 : DmaSems sig S_) (arg10 : DmaSems sig S_) (arg11 : Sems sig S_)
  (arg12 : DmaSems sig S2) (arg13 : DmaSems sig S2)

/-- Is the device on the first half of the time axis? The printed test. -/
def isFirst (d0 : Dev nD) : BitVec 1 :=
  Scalar.cmpi .ne (Scalar.extui (Scalar.cmpi .eq (Scalar.remsi (Scalar.divsi (Dev.word d0) 1#32) 2#32) 0#32) : BitVec 32) 0#32

/-- The entry handshake, the zero state on the first half, and the decays. -/
def entry (d0 : Dev nD) : Prog (𝔼 F) (Σ' (d0 : Dev nD) (v2 : BitVec 32) (v5 : BitVec 32) (v6 : BitVec 32) (v22 : FVec F S1x1x16x256 .bf16) (v25 : FVec F S1x16x256 .bf16), FVec F S8x32x256 .bf16) := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32
  if isFirst d0 = 1#1 then do
    let _h : Vec F S8x16x256 .f32 ← Prog.lift (.load arg8 rH.toLoadRect (View.loadsAt_vmem h_S8x16x256))
    Prog.lift (.store arg8 rH (k0_pay1 (F := F)) Finset.univ (View.stores_vmem_bits_univ h_S8x16x256 rfl) (.inl rfl))
    pure ⟨⟩
  else do
    pure ⟨⟩
  let a : Vec F S16x256 .bf16 ← Prog.lift (.load arg3 rA.toLoadRect (View.loadsAt_vmem h_S16x256))
  let a16 : Vec F S16x256 .bf16 ← Prog.lift (.load arg4 rA.toLoadRect (View.loadsAt_vmem h_S16x256))
  let x : Vec F S8x32x1x256 .bf16 ← Prog.lift (.load arg0 (rX 0).toLoadRect (View.loadsAt_vmem h_S8x32x1x256))
  pure ⟨d0, Scalar.remsi (Scalar.divsi (Dev.word d0) 2#32) 2#32, Scalar.remsi (Scalar.divsi (Dev.word d0) 1#32) 2#32,
    Scalar.subi 1#32 (Scalar.remsi (Scalar.divsi (Dev.word d0) 2#32) 2#32), k0_pay2 a, k0_pay3 a16, k0_pay4 x⟩

/-- The second half receives the state it starts from; every device reads its starting state and the first carry step's row. -/
def receive (d0 : Dev nD) (d16 : FVec F S1x16x256 .bf16) : Prog (𝔼 F) (Σ' (_ : Vec F S8x16x256 .f32) (_ : FVec F S8x16x256 .f32), FVec F S1x16x256 .f32) := do
  if k0_h2 : k0_cond2 d0 = 1#1 then do
    Prog.lift (.waitDma2 arg10.sem arg8 arg8 harg8.wordExact harg8.wordExact)
    semSignalWord (⟨k0_dev3 d0, k0_dev3_lt d0 k0_h2⟩ : Dev nD) arg11.sem 1#32
    pure ⟨⟩
  else do
    pure ⟨⟩
  let H : Vec F S8x16x256 .f32 ← Prog.lift (.load arg8 rH.toLoadRect (View.loadsAt_vmem h_S8x16x256))
  let r : Vec F S8x1x16x256 .bf16 ← Prog.lift (.load arg7 (rR 0).toLoadRect (View.loadsAt_vmem h_S8x1x16x256))
  let _r' : Vec F S8x1x16x256 .bf16 ← Prog.lift (.load arg7 (rR 0).toLoadRect (View.loadsAt_vmem h_S8x1x16x256))
  Prog.lift (.store arg7 (rR 0) (k0_pay30 H) Finset.univ (View.stores_vmem h_S8x1x16x256 (harg7.storeExact_slice rfl _ (packed_r 0)) (fun _ => rfl)) (.inl rfl))
  pure ⟨H, k0_pay29 r, k0_pay31 d16⟩

/-- The first half sends the state it ends with; then the second pass's first reads. -/
def send (d0 : Dev nD) (dA : FVec F S1x1x16x256 .bf16) : Prog (𝔼 F) (Σ' (_ : FVec F S8x32x16x256 .bf16), FVec F S8x32x16x256 .bf16) := do
  if k0_h3 : k0_cond3 d0 = 1#1 then do
    Prog.lift (.enqueueDma arg8 (.remote (Dev.tc (⟨k0_dev4 d0, k0_dev4_lt d0 k0_h3⟩ : Dev nD)) arg8 (.dma arg9.sem)) (.dma arg10.sem) harg8.wordExact harg8.wordExact ⟨⟨rfl, Or.inl rfl⟩, trivial⟩)
    pure ⟨⟩
  else do
    pure ⟨⟩
  let g : Vec F S8x32x16x256 .bf16 ← Prog.lift (.load arg7 rW.toLoadRect (View.loadsAt_vmem h_S8x32x16x256))
  let x : Vec F S8x32x1x256 .bf16 ← Prog.lift (.load arg0 (rX 0).toLoadRect (View.loadsAt_vmem h_S8x32x1x256))
  let b : Vec F S8x32x16x1 .bf16 ← Prog.lift (.load arg1 (rB 0).toLoadRect (View.loadsAt_vmem h_S8x32x16x1))
  pure ⟨k0_pay115 dA g, k0_pay116 x b⟩

/-- The rest of the second pass's first step. -/
def outFirst (p u : FVec F S8x32x16x256 .bf16) : Prog (𝔼 F) PUnit := do
  let _g' : Vec F S8x32x16x256 .bf16 ← Prog.lift (.load arg7 rW.toLoadRect (View.loadsAt_vmem h_S8x32x16x256))
  Prog.lift (.store arg7 rW (k0_pay118 p u) Finset.univ (View.stores_vmem h_S8x32x16x256 (harg7.storeExact_slice rfl _ packedbf16_S8x32x16x256_S8x32x16x256_0_0_0_0) (fun _ => rfl)) (.inl rfl))
  let cc : Vec F S8x32x16x1 .bf16 ← Prog.lift (.load arg2 (rB 0).toLoadRect (View.loadsAt_vmem h_S8x32x16x1))
  let _y : Vec F S8x32x1x256 .bf16 ← Prog.lift (.load arg5 (rX 0).toLoadRect (View.loadsAt_vmem h_S8x32x1x256))
  storeSubelements arg5 (rY 0) (fun old => updateSlice old (k0_pay119 p u cc) ![0, 0, (0 : Fin 16).val % 2, 0] (slices_y 0)) (View.loadsAt_vmem h_S8x32x2x256) (View.stores_vmem h_S8x32x2x256 (harg5.storeExact_slice rfl _ (packed_y 0)) (fun _ => rfl))

/-- A half of an output buffer: eight of the sixteen steps of every chunk. -/
abbrev lo8 (m : Memref sig .tc .vmem S8x32x16x256 .bf16) : Memref sig .tc .vmem S8x32x8x256 .bf16 :=
  m.slice (Rect.unit (s := S8x32x16x256) ![0, 0, 0, 0] S8x32x8x256.size inb_S8x32x16x256_S8x32x8x256_0_0_0_0) (fun _ => rfl)
abbrev hi8 (m : Memref sig .tc .vmem S8x32x16x256 .bf16) : Memref sig .tc .vmem S8x32x8x256 .bf16 :=
  m.slice (Rect.unit (s := S8x32x16x256) ![0, 0, 8, 0] S8x32x8x256.size inb_S8x32x16x256_S8x32x8x256_0_0_8_0) (fun _ => rfl)
abbrev sem0 (a : DmaSems sig S2) : DmaSem sig := ((a.slice (Rect.unit (s := S2) ![0] S1.size inb_S2_S1_0)).squeeze S_ squeezes_S1_S_ : DmaSems sig S_).sem
abbrev sem1 (a : DmaSems sig S2) : DmaSem sig := ((a.slice (Rect.unit (s := S2) ![1] S1.size inb_S2_S1_1)).squeeze S_ squeezes_S1_S_ : DmaSems sig S_).sem

/-- The closing waits. -/
def closing (v5 : BitVec 32) : Prog (𝔼 F) PUnit := do
  Prog.lift (.waitDma2 (sem0 arg12) (lo8 arg6) (lo8 arg5) (harg6.wordExact_slice rfl _ wordsbf16_S8x32x16x256_S8x32x8x256_0_0_0_0) (harg5.wordExact_slice rfl _ wordsbf16_S8x32x16x256_S8x32x8x256_0_0_0_0))
  Prog.lift (.waitDma2 (sem0 arg13) (lo8 arg5) (lo8 arg6) (harg5.wordExact_slice rfl _ wordsbf16_S8x32x16x256_S8x32x8x256_0_0_0_0) (harg6.wordExact_slice rfl _ wordsbf16_S8x32x16x256_S8x32x8x256_0_0_0_0))
  Prog.lift (.waitDma2 (sem1 arg12) (hi8 arg6) (hi8 arg5) (harg6.wordExact_slice rfl _ wordsbf16_S8x32x16x256_S8x32x8x256_0_0_8_0) (harg5.wordExact_slice rfl _ wordsbf16_S8x32x16x256_S8x32x8x256_0_0_8_0))
  Prog.lift (.waitDma2 (sem1 arg13) (hi8 arg5) (hi8 arg6) (harg5.wordExact_slice rfl _ wordsbf16_S8x32x16x256_S8x32x8x256_0_0_8_0) (harg6.wordExact_slice rfl _ wordsbf16_S8x32x16x256_S8x32x8x256_0_0_8_0))
  if Scalar.cmpi .ne (Scalar.extui (Scalar.cmpi .eq v5 0#32) : BitVec 32) 0#32 = 1#1 then do
    Prog.lift (.waitDma2 arg9.sem arg8 arg8 harg8.wordExact harg8.wordExact)
    semWaitWord arg11.sem 1#32
    pure ⟨⟩
  else do
    pure ⟨⟩
  pure ⟨⟩

/-- The body. -/
def body : Prog (𝔼 F) PUnit := do
  let d0 : Dev nD ← Prog.lift .deviceId
  let ⟨d0, _, v5, _, dA, d16, x⟩ ← entry arg0 arg3 arg4 arg8 d0
  let b : Vec F S8x32x16x1 .bf16 ← Prog.lift (.load arg1 (rB 0).toLoadRect (View.loadsAt_vmem h_S8x32x16x1))
  let _g : Vec F S8x32x16x256 .bf16 ← Prog.lift (.load arg7 rW.toLoadRect (View.loadsAt_vmem h_S8x32x16x256))
  Prog.lift (.store arg7 rW (k0_pay5 x b) Finset.univ (View.stores_vmem h_S8x32x16x256 (harg7.storeExact_slice rfl _ packedbf16_S8x32x16x256_S8x32x16x256_0_0_0_0) (fun _ => rfl)) (.inl rfl))
  times (localStep arg0 arg1 arg7 harg7 dA) 15 1 (by decide)
  let ⟨H, r, d⟩ ← receive arg7 harg7 arg8 harg8 arg10 arg11 d0 d16
  let H : FVec F S8x16x256 .f32 ← timesV (carryStep arg7 harg7 d16) 31 1 (by decide) (k0_pay32 H r d)
  let _h : Vec F S8x16x256 .f32 ← Prog.lift (.load arg8 rH.toLoadRect (View.loadsAt_vmem h_S8x16x256))
  Prog.lift (.store arg8 rH (shapeCast S8x16x256 H shapeCasts_S8x16x256_S8x16x256 : FVec F S8x16x256 .f32) Finset.univ (View.stores_vmem_bits_univ h_S8x16x256 rfl) (.inl rfl))
  let ⟨p, u⟩ ← send arg0 arg1 arg7 arg8 harg8 arg9 arg10 d0 dA
  outFirst arg2 arg5 harg5 arg7 harg7 p u
  times (outStep arg0 arg1 arg2 arg5 harg5 arg7 harg7 dA) 7 1 (by decide)
  Prog.lift (.enqueueDma (lo8 arg5) (.remote (Dev.tc (⟨k0_dev5 d0, k0_dev5_lt d0⟩ : Dev nD)) (lo8 arg6) (.dma (sem0 arg12))) (.dma (sem0 arg13)) (harg5.wordExact_slice rfl _ wordsbf16_S8x32x16x256_S8x32x8x256_0_0_0_0) (harg6.wordExact_slice rfl _ wordsbf16_S8x32x16x256_S8x32x8x256_0_0_0_0) ⟨⟨rfl, Or.inl rfl⟩, trivial⟩)
  times (outStep arg0 arg1 arg2 arg5 harg5 arg7 harg7 dA) 8 8 (by decide)
  Prog.lift (.enqueueDma (hi8 arg5) (.remote (Dev.tc (⟨k0_dev6 d0, k0_dev6_lt d0⟩ : Dev nD)) (hi8 arg6) (.dma (sem1 arg12))) (.dma (sem1 arg13)) (harg5.wordExact_slice rfl _ wordsbf16_S8x32x16x256_S8x32x8x256_0_0_8_0) (harg6.wordExact_slice rfl _ wordsbf16_S8x32x16x256_S8x32x8x256_0_0_8_0) ⟨⟨rfl, Or.inl rfl⟩, trivial⟩)
  closing arg5 harg5 arg6 harg6 arg8 harg8 arg9 arg11 arg12 arg13 v5

include harg0 harg1 harg2 harg3 harg4 in
set_option maxRecDepth 65536 in
/-- The printed body is the program of loops: by definitional unfolding. -/
theorem body_eq :
    cc0_body (F := F) arg0 harg0 arg1 harg1 arg2 harg2 arg3 harg3 arg4 harg4 arg5 harg5 arg6 harg6 arg7 harg7 arg8 harg8 arg9 arg10 arg11 arg12 arg13
      = body arg0 arg1 arg2 arg3 arg4 arg5 harg5 arg6 harg6 arg7 harg7 arg8 harg8 arg9 arg10 arg11 arg12 arg13 := by
  chain_rfl

end Body

end Cert.KernelIdeal.Scan
-- ==== Proof.KernelIdeal.Model.lean ====
/- What the body leaves in its buffers, as functions of what the device was given and the state its
   half of the time axis starts from. -/
module

public import proofs.«01_k».proof.Proof.KernelIdeal.Prog

@[expose] public section

noncomputable section

namespace Cert.KernelIdeal.Scan

open Idealize.ShloMosaic Idealize.SL.Sem Cert.KernelIdeal.Gen

variable {F : FTy → Type} [FloatOps F]

/-- What a device's body is given: the input halves and the decays. -/
structure Stage (F : FTy → Type) where
  x : S8x32x16x256.Idx → Elt F .bf16
  b : S8x32x16x16.Idx → Elt F .bf16
  c : S8x32x16x16.Idx → Elt F .bf16
  a : S16x256.Idx → Elt F .bf16
  a16 : S16x256.Idx → Elt F .bf16

namespace Stage

variable (s : Stage F)

/-- Time step `t` of every chunk. -/
def xs (t : Fin 16) : Vec F S8x32x1x256 .bf16 := fun i => s.x ((rX t).idx i)
def bs (t : Fin 16) : Vec F S8x32x16x1 .bf16 := fun i => s.b ((rB t).idx i)
def cs (t : Fin 16) : Vec F S8x32x16x1 .bf16 := fun i => s.c ((rB t).idx i)

/-- The decay over a step, and over a chunk. -/
def dA : FVec F S1x1x16x256 .bf16 := k0_pay2 s.a
def d16 : FVec F S1x16x256 .bf16 := k0_pay3 s.a16

/-- The chunk sums after `t + 1` steps of the first pass. -/
def loc : Nat → Vec F S8x32x16x256 .bf16
  | 0 => k0_pay5 (k0_pay4 (s.xs 0)) (s.bs 0)
  | t + 1 => if h : t + 1 < 16 then k0_pay6 s.dA (loc t) (s.xs ⟨t + 1, h⟩) (s.bs ⟨t + 1, h⟩) else loc t

theorem loc_succ (t : Fin 16) (k : Nat) (h : t.val = k + 1) : s.loc t.val = k0_pay6 s.dA (s.loc k) (s.xs t) (s.bs t) := by
  obtain ⟨t, ht⟩ := t; subst h; exact dif_pos ht

/-- Chunk `k`'s sum. -/
def row (k : Fin 32) : Vec F S8x1x16x256 .bf16 := fun i => s.loc 15 ((rR k).idx i)

/-- The state `k` chunks after `H`. -/
def carry (H : FVec F S8x16x256 .f32) : Nat → FVec F S8x16x256 .f32
  | 0 => H
  | k + 1 => if h : k < 32 then k0_pay32 (carry H k) (k0_pay29 (s.row ⟨k, h⟩)) (k0_pay31 s.d16) else carry H k

theorem carry_succ (H : FVec F S8x16x256 .f32) (k : Fin 32) :
    s.carry H (k.val + 1) = k0_pay32 (s.carry H k.val) (k0_pay29 (s.row k)) (k0_pay31 s.d16) := dif_pos k.isLt

/-- The index within a chunk's row. -/
def inRow (i : S8x32x16x256.Idx) : S8x1x16x256.Idx
  | ⟨0, _⟩ => i 0
  | ⟨1, _⟩ => (0 : Fin 1)
  | ⟨2, _⟩ => i 2
  | ⟨3, _⟩ => i 3

/-- The chunk buffer after `k` carry steps: the first `k` rows hold the states their chunks start from. -/
def rows (H : FVec F S8x16x256 .f32) (k : Nat) : Vec F S8x32x16x256 .bf16 := fun i =>
  if (i 1).val < k then k0_pay30 (s.carry H (i 1).val) (inRow i) else s.loc 15 i

/-- The state the device's half of the time axis ends with. -/
def stop (H : FVec F S8x16x256 .f32) : FVec F S8x16x256 .f32 := shapeCast S8x16x256 (s.carry H 32) shapeCasts_S8x16x256_S8x16x256

/-- The states of all chunks after `t` steps of the second pass. -/
def run (H : FVec F S8x16x256 .f32) : Nat → Vec F S8x32x16x256 .bf16
  | 0 => s.rows H 32
  | t + 1 => if h : t < 16 then k0_pay118 (k0_pay115 s.dA (run H t)) (k0_pay116 (s.xs ⟨t, h⟩) (s.bs ⟨t, h⟩)) else run H t

theorem run_succ (H : FVec F S8x16x256 .f32) (t : Fin 16) :
    s.run H (t.val + 1) = k0_pay118 (k0_pay115 s.dA (s.run H t.val)) (k0_pay116 (s.xs t) (s.bs t)) := dif_pos t.isLt

/-- The output at time step `t` of every chunk. -/
def yrow (H : FVec F S8x16x256 .f32) (t : Fin 16) : Vec F S8x32x1x256 .bf16 :=
  k0_pay119 (k0_pay115 s.dA (s.run H t.val)) (k0_pay116 (s.xs t) (s.bs t)) (s.cs t)

/-- The index within a time step. -/
def inStep (i : S8x32x16x256.Idx) : S8x32x1x256.Idx
  | ⟨0, _⟩ => i 0
  | ⟨1, _⟩ => i 1
  | ⟨2, _⟩ => (0 : Fin 1)
  | ⟨3, _⟩ => i 3

/-- The device's output. -/
def out (H : FVec F S8x16x256 .f32) : Vec F S8x32x16x256 .bf16 := fun i => s.yrow H (i 2) (inStep i)

/-- The output buffer after `t` steps, from contents `m`. -/
def outAt (H : FVec F S8x16x256 .f32) (m : Vec F S8x32x16x256 .bf16) (t : Nat) : Vec F S8x32x16x256 .bf16 := fun i =>
  if (i 2).val < t then s.out H i else m i

end Stage

/-! ## Reads and writes of the steps -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

theorem idx_inRow (k : Fin 32) (i : S8x32x16x256.Idx) (hi : (i 1).val = k.val) : (rR k).idx (Stage.inRow i) = i := by
  funext a
  apply Fin.ext
  match a with
  | ⟨0, _⟩ => exact (Nat.zero_add _).trans (Nat.one_mul _)
  | ⟨1, _⟩ => exact hi.symm
  | ⟨2, _⟩ => exact (Nat.zero_add _).trans (Nat.one_mul _)
  | ⟨3, _⟩ => exact (Nat.zero_add _).trans (Nat.one_mul _)

/-- The row written by carry step `k`. -/
theorem write_row (s : Stage F) (H : FVec F S8x16x256 .f32) (k : Fin 32) :
    ((Memref.whole cc0_scratch0 : Memref sig .tc .vmem S8x32x16x256 .bf16).access (rR k) : View sig .tc _ _ _).write (Elt F) (s.rows H k.val) (k0_pay30 (s.carry H k.val)) Finset.univ
      = s.rows H (k.val + 1) := by
  funext (i : S8x32x16x256.Idx)
  by_cases hi : (i 1).val = k.val
  · have e : ((Memref.whole cc0_scratch0 : Memref sig .tc .vmem S8x32x16x256 .bf16).access (rR k) : View sig .tc _ _ _).emb (Stage.inRow i) = i := idx_inRow k i hi
    conv_lhs => rw [← e]
    rw [View.write_emb_of_mem _ _ (Finset.mem_univ _)]
    unfold Stage.rows
    rw [if_pos (by omega), hi]; rfl
  · rw [View.write_of_not_mem]
    · unfold Stage.rows
      have : ((i 1).val < k.val + 1) ↔ ((i 1).val < k.val) := by omega
      simp only [this]
    · rw [View.setOn_univ]
      erw [View.set_slice_whole, Rect.mem_set_unit]
      intro h
      have := h 1
      change k.val ≤ (i 1).val ∧ (i 1).val < k.val + 1 at this
      omega

/-- The row carry step `k` reads. -/
theorem read_row (s : Stage F) (H : FVec F S8x16x256 .f32) (k : Fin 32) :
    (Memref.whole cc0_scratch0 : Memref sig .tc .vmem S8x32x16x256 .bf16).view.readAt (Elt F) (rR k).toLoadRect (s.rows H k.val) = s.row k := by
  funext i
  show s.rows H k.val ((rR k).idx i) = _
  unfold Stage.rows
  rw [if_neg]
  · rfl
  · show ¬ (k.val + 1 * (i 1).val < k.val); omega

/-- The index within a stored pair of time steps. -/
def Stage.inPair (i : S8x32x16x256.Idx) : S8x32x2x256.Idx
  | ⟨0, _⟩ => i 0
  | ⟨1, _⟩ => i 1
  | ⟨2, _⟩ => (⟨(i 2).val % 2, Nat.mod_lt _ (by decide)⟩ : Fin 2)
  | ⟨3, _⟩ => i 3

theorem idx_inPair (t : Fin 16) (i : S8x32x16x256.Idx) (hi : (i 2).val / 2 = t.val / 2) : (rY t).idx (Stage.inPair i) = i := by
  funext a
  apply Fin.ext
  match a with
  | ⟨0, _⟩ => exact (Nat.zero_add _).trans (Nat.one_mul _)
  | ⟨1, _⟩ => exact (Nat.zero_add _).trans (Nat.one_mul _)
  | ⟨2, _⟩ =>
    show t.val / 2 * 2 + 1 * ((i 2).val % 2) = (i 2).val
    omega
  | ⟨3, _⟩ => exact (Nat.zero_add _).trans (Nat.one_mul _)

/-- A pair with one row replaced, at that row. -/
theorem upd_hit {α : Type} (old : S8x32x2x256.Idx → α) (y : S8x32x1x256.Idx → α) (t : Fin 16) (i : S8x32x16x256.Idx) (ht : (i 2).val = t.val) :
    updateSlice old y ![0, 0, t.val % 2, 0] (slices_y t) (Stage.inPair i) = y (Stage.inStep i) := by
  unfold updateSlice
  refine (dif_pos ?_).trans (congrArg y ?_)
  · intro (a : Fin 4)
    match a with
    | ⟨0, _⟩ => exact ⟨Nat.zero_le _, Nat.lt_of_lt_of_eq (i 0).isLt (Nat.zero_add _).symm⟩
    | ⟨1, _⟩ => exact ⟨Nat.zero_le _, Nat.lt_of_lt_of_eq (i 1).isLt (Nat.zero_add _).symm⟩
    | ⟨2, _⟩ =>
      show t.val % 2 ≤ (i 2).val % 2 ∧ (i 2).val % 2 < t.val % 2 + 1
      omega
    | ⟨3, _⟩ => exact ⟨Nat.zero_le _, Nat.lt_of_lt_of_eq (i 3).isLt (Nat.zero_add _).symm⟩
  · funext (b : Fin 4)
    apply Fin.ext
    match b with
    | ⟨0, _⟩ => rfl
    | ⟨1, _⟩ => rfl
    | ⟨2, _⟩ =>
      show (i 2).val % 2 - t.val % 2 = 0
      omega
    | ⟨3, _⟩ => rfl

/-- … and at the other. -/
theorem upd_miss {α : Type} (old : S8x32x2x256.Idx → α) (y : S8x32x1x256.Idx → α) (t : Fin 16) (i : S8x32x16x256.Idx)
    (hi : (i 2).val / 2 = t.val / 2) (ht : (i 2).val ≠ t.val) :
    updateSlice old y ![0, 0, t.val % 2, 0] (slices_y t) (Stage.inPair i) = old (Stage.inPair i) := by
  unfold updateSlice
  refine dif_neg fun h => ?_
  have := h (2 : Fin 4)
  change t.val % 2 ≤ (i 2).val % 2 ∧ (i 2).val % 2 < t.val % 2 + 1 at this
  omega

/-- The row written by step `t` of the second pass, with the other row of its pair put back. -/
theorem write_y (s : Stage F) (H : FVec F S8x16x256 .f32) (m : Vec F S8x32x16x256 .bf16) (t : Fin 16) :
    ((Memref.whole cc0_stg5_0 : Memref sig .tc .vmem S8x32x16x256 .bf16).access (rY t) : View sig .tc _ _ _).write (Elt F) (s.outAt H m t.val)
        (updateSlice ((Memref.whole cc0_stg5_0 : Memref sig .tc .vmem S8x32x16x256 .bf16).view.readAt (Elt F) (rY t).toLoadRect (s.outAt H m t.val))
          (s.yrow H t) ![0, 0, t.val % 2, 0] (slices_y t)) Finset.univ
      = s.outAt H m (t.val + 1) := by
  funext (i : S8x32x16x256.Idx)
  by_cases hi : (i 2).val / 2 = t.val / 2
  · have e : ((Memref.whole cc0_stg5_0 : Memref sig .tc .vmem S8x32x16x256 .bf16).access (rY t) : View sig .tc _ _ _).emb (Stage.inPair i) = i := idx_inPair t i hi
    conv_lhs => rw [← e]
    rw [View.write_emb_of_mem _ _ (Finset.mem_univ _)]
    by_cases ht : (i 2).val = t.val
    · refine (upd_hit _ (s.yrow H t) t i ht).trans ?_
      unfold Stage.outAt Stage.out
      rw [if_pos (by omega), show i 2 = t from Fin.ext ht]
    · refine (upd_miss _ (s.yrow H t) t i hi ht).trans ?_
      show s.outAt H m t.val ((rY t).idx (Stage.inPair i)) = _
      rw [idx_inPair t i hi]
      unfold Stage.outAt
      have : ((i 2).val < t.val + 1) ↔ ((i 2).val < t.val) := by omega
      simp only [this]
  · rw [View.write_of_not_mem]
    · unfold Stage.outAt
      have : ((i 2).val < t.val + 1) ↔ ((i 2).val < t.val) := by omega
      simp only [this]
    · rw [View.setOn_univ]
      erw [View.set_slice_whole, Rect.mem_set_unit]
      intro h
      have := h 2
      change t.val / 2 * 2 ≤ (i 2).val ∧ (i 2).val < t.val / 2 * 2 + 2 at this
      omega

end Cert.KernelIdeal.Scan
-- ==== Proof.KernelIdeal.Loops.lean ====
/- The three loops of the body, each proved by induction over a symbolic step. -/
module

public import proofs.«01_k».proof.Proof.KernelIdeal.Model
public import Idealize.ShloMosaic.Lib.Pipeline.Kit
public import Idealize.ShloMosaic.Lib.Rounds
public import Idealize.ShloMosaic.Lib.Tactic

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipeline library's rounds and the protocol's. -/
abbrev UU : Type := UR sig nD τ × URounds (GSem nD τ sig) Bool

local notation "𝕄" => MT nD τ sig Unit (Elt F) ℕ UU ℕ

abbrev 𝒱₀ : Variants := Variants.none

/-- A device's buffer, whole, at contents `f`. -/
abbrev pt (c : Dev nD) (b : Ref sig .tc) (f : b.ty.Contents (Elt F)) : sProp 𝕄 := (Memref.whole b).view.loc (c : Thread nD τ) ↦{fullShare} f

/-- The goal of a program on device `c`. -/
abbrev WP (c : Dev nD) {β : Type} (p : Prog (𝔼 F) β) (Q : β → sProp 𝕄) : sProp 𝕄 :=
  wp frame (wpE (defs₀ (F := F)) 𝒱₀ (c : Thread nD τ) none) Set.univ p Q

abbrev mX : Memref sig .tc .vmem S8x32x16x256 .bf16 := Memref.whole cc0_stg0_0
abbrev mB : Memref sig .tc .vmem S8x32x16x16 .bf16 := Memref.whole cc0_stg1_0
abbrev mC : Memref sig .tc .vmem S8x32x16x16 .bf16 := Memref.whole cc0_stg2_0
abbrev mA : Memref sig .tc .vmem S16x256 .bf16 := Memref.whole cc0_stg3_0
abbrev mA16 : Memref sig .tc .vmem S16x256 .bf16 := Memref.whole cc0_stg4_0
abbrev mMine : Memref sig .tc .vmem S8x32x16x256 .bf16 := Memref.whole cc0_stg5_0
abbrev mTheirs : Memref sig .tc .vmem S8x32x16x256 .bf16 := Memref.whole cc0_stg6_0
abbrev mR : Memref sig .tc .vmem S8x32x16x256 .bf16 := Memref.whole cc0_scratch0
abbrev mH : Memref sig .tc .vmem S8x16x256 .f32 := Memref.whole cc0_scratch1
abbrev wR : mR.IsWhole := Memref.isWhole_whole _
abbrev wMine : mMine.IsWhole := Memref.isWhole_whole _
abbrev wTheirs : mTheirs.IsWhole := Memref.isWhole_whole _
abbrev wH : mH.IsWhole := Memref.isWhole_whole _

/-- The output buffer's elements in `S`, at contents `f`. -/
abbrev minePt (c : Dev nD) (S : Finset S8x32x16x256.Idx) (f : Vec F S8x32x16x256 .bf16) : sProp 𝕄 :=
  mMine.view.loc (c : Thread nD τ) ↦[S]{fullShare} f

theorem write_rW (f w : Vec F S8x32x16x256 .bf16) : (mR.access rW).write (Elt F) f w Finset.univ = w :=
  Memref.write_access_unit_zero_univ (Elt F) cc0_scratch0 hz4 _ f w
theorem read_rW (f : Vec F S8x32x16x256 .bf16) : mR.view.readAt (Elt F) rW.toLoadRect f = f :=
  Memref.readAt_unit_zero (Elt F) cc0_scratch0 hz4 _ f
theorem set_mine (r : Rect S8x32x16x256) : (mMine.access r).set = r.set := View.set_slice_whole cc0_stg5_0 r
theorem setOn_mine (r : Rect S8x32x16x256) : mMine.view.setOn r.toLoadRect.set = r.set :=
  (View.set_slice mMine.view r).symm.trans (set_mine r)

/-- Loads and stores of the output buffer, within the elements held. -/
theorem wp_load_mine (c : Dev nD) (S : Finset S8x32x16x256.Idx) (f : Vec F S8x32x16x256 .bf16) (r : Rect S8x32x16x256) (hr : r.set ⊆ S)
    (hl : mMine.view.LoadsAt r.toLoadRect) {β : Type} (K : (r.toLoadRect.shape.Idx → Elt F .bf16) → Prog (𝔼 F) β) (Q : β → sProp 𝕄) :
    minePt c S f ⊢ iprop((minePt c S f -∗ WP c (K (mMine.view.readAt (Elt F) r.toLoadRect f)) Q) -∗ WP c (.op (.load mMine r.toLoadRect hl) K) Q) :=
  wp_load 𝒱₀ (c : Thread nD τ) none Set.univ (m := mMine) (S := S) ((setOn_mine r).trans_subset hr)

theorem wp_store_mine (c : Dev nD) (S : Finset S8x32x16x256.Idx) (f : Vec F S8x32x16x256 .bf16) (r : Rect S8x32x16x256) (hr : r.set ⊆ S)
    (w : r.shape.Idx → Elt F .bf16) (hx : (mMine.access r).Stores Finset.univ) (hm) {β : Type} (K : PUnit → Prog (𝔼 F) β) (Q : β → sProp 𝕄) :
    minePt c S f ⊢ iprop((minePt c S ((mMine.access r).write (Elt F) f w Finset.univ) -∗ WP c (K ⟨⟩) Q) -∗ WP c (.op (.store mMine r w Finset.univ hx hm) K) Q) :=
  wp_store 𝒱₀ (c : Thread nD τ) none Set.univ (m := mMine) (r := r) (S := S) (by rw [View.setOn_univ]; exact (set_mine r).trans_subset hr)

theorem wp_localStep (c : Dev nD) (s : Stage F) (t : Fin 16) (k : ℕ) (ht : t.val = k + 1) {β : Type} (K : PUnit → Prog (𝔼 F) β) (Q : β → sProp 𝕄) :
    iprop((pt c cc0_stg0_0 s.x ∗ pt c cc0_stg1_0 s.b ∗ pt c cc0_scratch0 (s.loc k))
      ∗ ((pt c cc0_stg0_0 s.x ∗ pt c cc0_stg1_0 s.b ∗ pt c cc0_scratch0 (s.loc t.val)) -∗ WP c (K ⟨⟩) Q))
    ⊢ WP c (localStep mX mB mR wR s.dA t >>= K) Q := by
  unfold localStep
  simp only [Prog.lift, Prog.bind_op, Prog.bind_ret, Prog.pure_eq_ret]
  istart
  iintro ⟨⟨HX, HB, HR⟩, Hk⟩
  iapply (wp_load 𝒱₀ (c : Thread nD τ) none Set.univ (Finset.subset_univ _)) $$ [HR] [HX HB Hk]
  · iexact HR
  iintro HR
  iapply (wp_load 𝒱₀ (c : Thread nD τ) none Set.univ (Finset.subset_univ _)) $$ [HX] [HR HB Hk]
  · iexact HX
  iintro HX
  iapply (wp_load 𝒱₀ (c : Thread nD τ) none Set.univ (Finset.subset_univ _)) $$ [HB] [HR HX Hk]
  · iexact HB
  iintro HB
  iapply (wp_load 𝒱₀ (c : Thread nD τ) none Set.univ (Finset.subset_univ _)) $$ [HR] [HX HB Hk]
  · iexact HR
  iintro HR
  iapply (wp_store 𝒱₀ (c : Thread nD τ) none Set.univ (Finset.subset_univ _)) $$ [HR] [HX HB Hk]
  · iexact HR
  iintro HR
  iapply Hk
  rw [s.loc_succ t k ht]
  rw [write_rW, read_rW]
  isplitl [HX]; · iexact HX
  isplitl [HB]; · iexact HB
  iexact HR

/-- The first pass: from the chunk sums after `k + 1` steps to those after `k + 1 + n`. -/
theorem wp_localLoop (c : Dev nD) (s : Stage F) {β : Type} (K : PUnit → Prog (𝔼 F) β) (Q : β → sProp 𝕄) :
    ∀ (n k : ℕ) (h : n + (k + 1) ≤ 16),
    iprop((pt c cc0_stg0_0 s.x ∗ pt c cc0_stg1_0 s.b ∗ pt c cc0_scratch0 (s.loc k))
      ∗ ((pt c cc0_stg0_0 s.x ∗ pt c cc0_stg1_0 s.b ∗ pt c cc0_scratch0 (s.loc (k + n))) -∗ WP c (K ⟨⟩) Q))
    ⊢ WP c (times (localStep mX mB mR wR s.dA) n (k + 1) h >>= K) Q
  | 0, k, h => by
    rw [Nat.add_zero]
    unfold times
    simp only [Prog.bind_ret, Prog.pure_eq_ret]
    istart
    iintro ⟨H, Hk⟩
    iapply Hk; iexact H
  | n + 1, k, h => by
    unfold times
    rw [Prog.bind_assoc]
    refine BIBase.Entails.trans ?_ (wp_localStep c s ⟨k + 1, by omega⟩ k rfl _ Q)
    refine sep_mono_right ?_
    refine BIClass.wand_intro ?_
    refine BIBase.Entails.trans ?_ (wp_localLoop c s K Q n (k + 1) (by omega))
    rw [show k + 1 + n = k + (n + 1) by omega]
    exact sep_comm.1

theorem wp_carryStep (c : Dev nD) (s : Stage F) (H : FVec F S8x16x256 .f32) (k : Fin 32) {β : Type} (K : FVec F S8x16x256 .f32 → Prog (𝔼 F) β) (Q : β → sProp 𝕄) :
    iprop(pt c cc0_scratch0 (s.rows H k.val) ∗ (pt c cc0_scratch0 (s.rows H (k.val + 1)) -∗ WP c (K (s.carry H (k.val + 1))) Q))
    ⊢ WP c (carryStep mR wR s.d16 k (s.carry H k.val) >>= K) Q := by
  unfold carryStep
  simp only [Prog.lift, Prog.bind_op, Prog.bind_ret, Prog.pure_eq_ret]
  istart
  iintro ⟨HR, Hk⟩
  iapply (wp_load 𝒱₀ (c : Thread nD τ) none Set.univ (Finset.subset_univ _)) $$ [HR] [Hk]
  · iexact HR
  iintro HR
  iapply (wp_load 𝒱₀ (c : Thread nD τ) none Set.univ (Finset.subset_univ _)) $$ [HR] [Hk]
  · iexact HR
  iintro HR
  iapply (wp_store 𝒱₀ (c : Thread nD τ) none Set.univ (Finset.subset_univ _)) $$ [HR] [Hk]
  · iexact HR
  iintro HR
  rw [write_row s H k, read_row s H k, ← s.carry_succ H k]
  iapply Hk
  iexact HR

/-- The carry loop: chunk by chunk, the sums make way for the states their chunks start from. -/
theorem wp_carryLoop (c : Dev nD) (s : Stage F) (H : FVec F S8x16x256 .f32) {β : Type} (K : FVec F S8x16x256 .f32 → Prog (𝔼 F) β) (Q : β → sProp 𝕄) :
    ∀ (n k : ℕ) (h : n + k ≤ 32),
    iprop(pt c cc0_scratch0 (s.rows H k) ∗ (pt c cc0_scratch0 (s.rows H (k + n)) -∗ WP c (K (s.carry H (k + n))) Q))
    ⊢ WP c (timesV (carryStep mR wR s.d16) n k h (s.carry H k) >>= K) Q
  | 0, k, h => by
    rw [Nat.add_zero]
    unfold timesV
    simp only [Prog.bind_ret, Prog.pure_eq_ret]
    istart
    iintro ⟨H, Hk⟩
    iapply Hk; iexact H
  | n + 1, k, h => by
    unfold timesV
    rw [Prog.bind_assoc]
    refine BIBase.Entails.trans ?_ (wp_carryStep c s H ⟨k, by omega⟩ _ Q)
    refine sep_mono_right ?_
    refine BIClass.wand_intro ?_
    refine BIBase.Entails.trans ?_ (wp_carryLoop c s H K Q n (k + 1) (by omega))
    rw [show k + 1 + n = k + (n + 1) by omega]
    exact sep_comm.1

/-- What the second pass reads and writes, after `t` steps. -/
abbrev outPts (c : Dev nD) (s : Stage F) (H : FVec F S8x16x256 .f32) (S : Finset S8x32x16x256.Idx) (m : Vec F S8x32x16x256 .bf16) (t : ℕ) : sProp 𝕄 :=
  iprop(pt c cc0_stg0_0 s.x ∗ pt c cc0_stg1_0 s.b ∗ pt c cc0_stg2_0 s.c ∗ pt c cc0_scratch0 (s.run H t) ∗ minePt c S (s.outAt H m t))

theorem wp_outStep (c : Dev nD) (s : Stage F) (H : FVec F S8x16x256 .f32) (S : Finset S8x32x16x256.Idx) (m : Vec F S8x32x16x256 .bf16) (t : Fin 16)
    (hY : (rY t).set ⊆ S) (hX : (rX t).set ⊆ S) {β : Type} (K : PUnit → Prog (𝔼 F) β) (Q : β → sProp 𝕄) :
    iprop(outPts c s H S m t.val ∗ (outPts c s H S m (t.val + 1) -∗ WP c (K ⟨⟩) Q))
    ⊢ WP c (outStep mX mB mC mMine wMine mR wR s.dA t >>= K) Q := by
  unfold outStep storeSubelements
  simp only [Prog.lift, Prog.bind_op, Prog.bind_ret, Prog.pure_eq_ret]
  istart
  iintro ⟨⟨HX, HB, HC, HR, HY⟩, Hk⟩
  iapply (wp_load 𝒱₀ (c : Thread nD τ) none Set.univ (Finset.subset_univ _)) $$ [HR] [HX HB HC HY Hk]
  · iexact HR
  iintro HR
  iapply (wp_load 𝒱₀ (c : Thread nD τ) none Set.univ (Finset.subset_univ _)) $$ [HX] [HR HB HC HY Hk]
  · iexact HX
  iintro HX
  iapply (wp_load 𝒱₀ (c : Thread nD τ) none Set.univ (Finset.subset_univ _)) $$ [HB] [HR HX HC HY Hk]
  · iexact HB
  iintro HB
  iapply (wp_load 𝒱₀ (c : Thread nD τ) none Set.univ (Finset.subset_univ _)) $$ [HR] [HX HB HC HY Hk]
  · iexact HR
  iintro HR
  iapply (wp_store 𝒱₀ (c : Thread nD τ) none Set.univ (Finset.subset_univ _)) $$ [HR] [HX HB HC HY Hk]
  · iexact HR
  iintro HR
  iapply (wp_load 𝒱₀ (c : Thread nD τ) none Set.univ (Finset.subset_univ _)) $$ [HC] [HR HX HB HY Hk]
  · iexact HC
  iintro HC
  iapply (wp_load_mine c S _ (rX t) hX _ _ Q) $$ [HY] [HR HX HB HC Hk]
  · iexact HY
  iintro HY
  iapply (wp_load_mine c S _ (rY t) hY _ _ Q) $$ [HY] [HR HX HB HC Hk]
  · iexact HY
  iintro HY
  iapply (wp_store_mine c S _ (rY t) hY _ _ _ _ Q) $$ [HY] [HR HX HB HC Hk]
  · iexact HY
  iintro HY
  iapply Hk
  unfold outPts
  rw [s.run_succ H t, ← write_y s H m t]
  rw [write_rW, read_rW]
  isplitl [HX]; · iexact HX
  isplitl [HB]; · iexact HB
  isplitl [HC]; · iexact HC
  isplitl [HR]; · iexact HR
  iexact HY

/-- The second pass, over the elements `S` of the output buffer. -/
theorem wp_outLoop (c : Dev nD) (s : Stage F) (H : FVec F S8x16x256 .f32) (S : Finset S8x32x16x256.Idx) (m : Vec F S8x32x16x256 .bf16)
    {β : Type} (K : PUnit → Prog (𝔼 F) β) (Q : β → sProp 𝕄) :
    ∀ (n k : ℕ) (h : n + k ≤ 16), (∀ t : Fin 16, k ≤ t.val → t.val < k + n → (rY t).set ⊆ S ∧ (rX t).set ⊆ S) →
    (iprop(outPts c s H S m k ∗ (outPts c s H S m (k + n) -∗ WP c (K ⟨⟩) Q))
    ⊢ WP c (times (outStep mX mB mC mMine wMine mR wR s.dA) n k h >>= K) Q)
  | 0, k, h, _ => by
    rw [Nat.add_zero]
    unfold times
    simp only [Prog.bind_ret, Prog.pure_eq_ret]
    istart
    iintro ⟨H, Hk⟩
    iapply Hk; iexact H
  | n + 1, k, h, hS => by
    unfold times
    rw [Prog.bind_assoc]
    refine BIBase.Entails.trans ?_ (wp_outStep c s H S m ⟨k, by omega⟩ (hS ⟨k, by omega⟩ (Nat.le_refl k) (show k < k + (n + 1) by omega)).1
      (hS ⟨k, by omega⟩ (Nat.le_refl k) (show k < k + (n + 1) by omega)).2 _ Q)
    refine sep_mono_right ?_
    refine BIClass.wand_intro ?_
    refine BIBase.Entails.trans ?_ (wp_outLoop c s H S m K Q n (k + 1) (by omega) fun t h1 h2 => hS t (by omega) (by omega))
    rw [show k + 1 + n = k + (n + 1) by omega]
    exact sep_comm.1

end Cert.KernelIdeal.Scan
-- ==== Proof.KernelIdeal.Protocol.lean ====
/- The protocol between the four devices: who signals or copies onto each semaphore, how much, and what
   each landing hands over.

   Device `c` has a neighbour `px c` across the feature axis and a neighbour `py c` across the time axis.
   - barrier: one unit from each neighbour. `px c` lends the two halves of its receive buffer; `py c`, when
     `c` is on the first half of the time axis, lends its state buffer, and otherwise nothing.
   - state received (second half only): the copy of the first half's state lands.
   - state sent (first half only): the source comes back.
   - acknowledgement (first half only): one unit, nothing handed over.
   - output half sent, output half received: the source comes back, the neighbour's half lands. -/
module

public import proofs.«01_k».proof.Proof.KernelIdeal.Loops

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Neighbours -/

/-- The neighbour across the feature axis, and across the time axis. -/
def px (c : Dev nD) : Dev nD := ⟨(c.val + 2) % 4, Nat.mod_lt _ (by decide)⟩
def py (c : Dev nD) : Dev nD := ⟨(c.val / 2 * 2 + (1 - c.val % 2)) % 4, Nat.mod_lt _ (by decide)⟩
theorem px_px (c : Dev nD) : px (px c) = c := by revert c; decide
theorem py_py (c : Dev nD) : py (py c) = c := by revert c; decide
def turnX : Dev nD ≃ Dev nD := ⟨px, px, px_px, px_px⟩
def turnY : Dev nD ≃ Dev nD := ⟨py, py, py_py, py_py⟩

/-- On the first half of the time axis. -/
abbrev First (c : Dev nD) : Prop := c.val % 2 = 0
theorem first_py (c : Dev nD) : First (py c) ↔ ¬ First c := by revert c; decide
theorem first_px (c : Dev nD) : First (px c) ↔ First c := by revert c; decide

theorem dev1_eq (c : Dev nD) : (⟨k0_dev1 c, k0_dev1_lt c⟩ : Dev nD) = px c := by revert c; decide
theorem dev2_eq (c : Dev nD) : (⟨k0_dev2 c, k0_dev2_lt c⟩ : Dev nD) = py c := by revert c; decide
theorem dev3_eq (c : Dev nD) (h : k0_cond2 c = 1#1) : (⟨k0_dev3 c, k0_dev3_lt c h⟩ : Dev nD) = py c := by revert c; decide
theorem dev4_eq (c : Dev nD) (h : k0_cond3 c = 1#1) : (⟨k0_dev4 c, k0_dev4_lt c h⟩ : Dev nD) = py c := by revert c; decide
theorem dev5_eq (c : Dev nD) : (⟨k0_dev5 c, k0_dev5_lt c⟩ : Dev nD) = px c := by revert c; decide
theorem dev6_eq (c : Dev nD) : (⟨k0_dev6 c, k0_dev6_lt c⟩ : Dev nD) = px c := by revert c; decide
theorem isFirst_iff (c : Dev nD) : isFirst c = 1#1 ↔ First c := by revert c; decide
theorem cond2_iff (c : Dev nD) : k0_cond2 c = 1#1 ↔ ¬ First c := by revert c; decide
theorem cond3_iff (c : Dev nD) : k0_cond3 c = 1#1 ↔ First c := by revert c; decide

/-! ## Semaphores and cells -/

abbrev barS : Sem sig := (SemArray.scalar (sig.barrier 0 rfl) : Sems sig S_).sem
abbrev ackS : Sem sig := (cc0_scratch4 : Sems sig S_).sem
abbrev hsS : DmaSem sig := (cc0_scratch2 : DmaSems sig S_).sem
abbrev hrS : DmaSem sig := (cc0_scratch3 : DmaSems sig S_).sem
abbrev os0 : DmaSem sig := sem0 cc0_scratch5
abbrev os1 : DmaSem sig := sem1 cc0_scratch5
abbrev or0 : DmaSem sig := sem0 cc0_scratch6
abbrev or1 : DmaSem sig := sem1 cc0_scratch6

/-- What a semaphore is for. -/
inductive Role | bar | hrecv | hsend | ack | send0 | send1 | recv0 | recv1 | other
  deriving DecidableEq

def role (s : SemLoc sig) : Role :=
  if s = .reg barS then .bar else if s = .reg ackS then .ack else if s = .dma hrS then .hrecv else if s = .dma hsS then .hsend
  else if s = .dma os0 then .send0 else if s = .dma os1 then .send1 else if s = .dma or0 then .recv0 else if s = .dma or1 then .recv1 else .other

/-- The semaphore of a role. -/
def semOf : Role → SemLoc sig
  | .bar => .reg barS | .ack => .reg ackS | .hrecv => .dma hrS | .hsend => .dma hsS
  | .send0 => .dma os0 | .send1 => .dma os1 | .recv0 => .dma or0 | .recv1 => .dma or1 | .other => .reg barS

theorem role_semOf (k : Role) (h : k ≠ .other) : role (semOf k) = k := by
  cases k <;> first | decide | exact absurd rfl h

abbrev cell (c : Dev nD) (k : Role) : GSem nD τ sig := ((c : Thread nD τ), semOf k)

/-! ## Contents -/

variable (st : Dev nD → Stage F)

/-- The state a device's half of the time axis starts from. -/
def hIn (c : Dev nD) : FVec F S8x16x256 .f32 := if First c then k0_pay1 else (st (py c)).stop k0_pay1
/-- … and ends with. -/
def hOut (c : Dev nD) : FVec F S8x16x256 .f32 := (st c).stop (hIn st c)
/-- The device's output. -/
def mineF (c : Dev nD) : Vec F S8x32x16x256 .bf16 := (st c).out (hIn st c)

abbrev hPts (c : Dev nD) (f : FVec F S8x16x256 .f32) : sProp 𝕄 := mH.view.loc (c : Thread nD τ) ↦[mH.view.set]{fullShare} f
abbrev mLo (c : Dev nD) (f : Vec F S8x32x16x256 .bf16) : sProp 𝕄 := (lo8 mMine).view.loc (c : Thread nD τ) ↦[(lo8 mMine).view.set]{fullShare} f
abbrev mHi (c : Dev nD) (f : Vec F S8x32x16x256 .bf16) : sProp 𝕄 := (hi8 mMine).view.loc (c : Thread nD τ) ↦[(hi8 mMine).view.set]{fullShare} f
abbrev tLo (c : Dev nD) (f : Vec F S8x32x16x256 .bf16) : sProp 𝕄 := (lo8 mTheirs).view.loc (c : Thread nD τ) ↦[(lo8 mTheirs).view.set]{fullShare} f
abbrev tHi (c : Dev nD) (f : Vec F S8x32x16x256 .bf16) : sProp 𝕄 := (hi8 mTheirs).view.loc (c : Thread nD τ) ↦[(hi8 mTheirs).view.set]{fullShare} f

abbrev NH : ℕ := (mH : Memref sig .tc .vmem S8x16x256 .f32).view.dmaCredit
abbrev NO : ℕ := (lo8 mTheirs).view.dmaCredit
theorem NH_pos : 0 < NH := View.dmaCredit_pos _ (by decide)
theorem NO_pos : 0 < NO := View.dmaCredit_pos _ (by decide)

/-! ## The schedule -/

/-- Paid to the barrier of `c` by `px c`: its receive buffer, and that its receive cells are open. -/
def barPayX (c : Dev nD) : sProp 𝕄 :=
  iprop((∃ f, tLo (px c) f) ∗ (∃ f, tHi (px c) f) ∗ reached ER (cell (px c) .recv0) 0 ∗ reached ER (cell (px c) .recv1) 0)
/-- Paid to the barrier of `c` by `py c`. -/
def barPayY (c : Dev nD) : sProp 𝕄 :=
  if First c then iprop((∃ f, hPts (py c) f) ∗ reached ER (cell (py c) .hrecv) 0) else reached ER (cell (py c) .ack) 0

def duty (c : Dev nD) : Role → Finset Bool
  | .bar => {false, true}
  | .hrecv => if First c then ∅ else {false}
  | .hsend => if First c then {false} else ∅
  | .ack => if First c then {false} else ∅
  | .send0 => {false} | .send1 => {false} | .recv0 => {false} | .recv1 => {false}
  | .other => ∅

def amt : Role → ℕ
  | .bar => 1 | .ack => 1 | .hrecv => NH | .hsend => NH | .send0 => NO | .send1 => NO | .recv0 => NO | .recv1 => NO | .other => 1

def pay (c : Dev nD) : Role → Bool → sProp 𝕄
  | .bar, false => barPayX c
  | .bar, true => barPayY c
  | .hrecv, _ => hPts c (hIn st c)
  | .hsend, _ => hPts c (hOut st c)
  | .ack, _ => iprop(emp)
  | .send0, _ => mLo c (mineF st c)
  | .send1, _ => mHi c (mineF st c)
  | .recv0, _ => tLo c (mineF st (px c))
  | .recv1, _ => tHi c (mineF st (px c))
  | .other, _ => iprop(emp)

/-- One round: what each cell's duties are, what each pays and hands over. -/
def rd : Rounds.Schedule (GSem nD τ sig) Bool 𝕄 where
  duties g r := if r = 0 ∧ g.1.2 = .tc then duty g.1.1 (role g.2) else ∅
  unitless _ := False
  amount g _ _ := amt (role g.2)
  payload g _ d := pay st g.1.1 (role g.2) d
  amount_pos g _ _ _ := by
    show 0 < amt (role g.2)
    cases role g.2
    all_goals first | exact Nat.one_pos | exact NH_pos | exact NO_pos

instance rd_storable (g : GSem nD τ sig) (r : ℕ) (d : Bool) : BI.Storable (upEmb : UEmb _ 𝕄) ((rd (F := F) st).payload g r d) := by
  show BI.Storable upEmb (pay st g.1.1 (role g.2) d)
  cases role g.2 <;> cases d
  all_goals dsimp only [pay]
  all_goals first | infer_instance | (unfold barPayX; infer_instance) | (unfold barPayY; split <;> infer_instance)

section Tables

variable (c : Dev nD) (k : Role) (hk : k ≠ .other)

include hk in
theorem duties_eq : (rd (F := F) st).duties (cell c k) 0 = duty c k := by
  dsimp only [rd]; rw [if_pos ⟨rfl, rfl⟩, role_semOf k hk]
include hk in
theorem amount_eq (d : Bool) : (rd (F := F) st).amount (cell c k) 0 d = amt k := by
  dsimp only [rd]; rw [role_semOf k hk]
include hk in
theorem payload_eq (d : Bool) : (rd (F := F) st).payload (cell c k) 0 d = pay st c k d := by
  dsimp only [rd]; rw [role_semOf k hk]
theorem duties_later (g : GSem nD τ sig) (r : ℕ) (hr : 1 ≤ r) : (rd (F := F) st).duties g r = ∅ := by
  dsimp only [rd]; exact if_neg fun h => by omega

include hk in
/-- A cell with one duty: what its round amounts to, and hands over. -/
theorem expect_one (hd : duty c k = {false}) : (rd (F := F) st).expect (cell c k) 0 = amt k := by
  unfold Schedule.expect Schedule.amountOf
  rw [duties_eq st c k hk, hd, Finset.sum_singleton, amount_eq st c k hk]
include hk in
theorem rest_one (hd : duty c k = {false}) :
    bigSep ((rd (F := F) st).duties (cell c k) 0 \ ∅) (fun d => (rd (F := F) st).payload (cell c k) 0 d) = pay st c k false := by
  rw [Finset.sdiff_empty, duties_eq st c k hk, hd, bigSep_singleton, payload_eq st c k hk]

theorem expect_bar : (rd (F := F) st).expect (cell c .bar) 0 = 2 := by
  unfold Schedule.expect Schedule.amountOf
  rw [duties_eq st c .bar (by decide)]
  show ∑ d ∈ ({false, true} : Finset Bool), _ = 2
  rw [Finset.sum_pair (by decide), amount_eq st c .bar (by decide), amount_eq st c .bar (by decide)]; rfl
theorem rest_bar : bigSep ((rd (F := F) st).duties (cell c .bar) 0 \ ∅) (fun d => (rd (F := F) st).payload (cell c .bar) 0 d)
    = iprop(barPayX c ∗ barPayY c) := by
  rw [Finset.sdiff_empty, duties_eq st c .bar (by decide)]
  show bigSep ({false, true} : Finset Bool) _ = _
  rw [bigSep_insert (by decide), bigSep_singleton, payload_eq st c .bar (by decide), payload_eq st c .bar (by decide)]; rfl

end Tables

/-! ## What each device owes at launch; the levels -/

/-- What a device owes its neighbour across the time axis beside the barrier unit: the state, or the acknowledgement. -/
def oweMid (c : Dev nD) : CellTallies nD τ sig Unit := if First c then tallyAt (cell (py c) .hrecv) () NH else tallyAt (cell (py c) .ack) () 1
def owe1 (c : Dev nD) : CellTallies nD τ sig Unit := tallyAt (cell (px c) .recv1) () NO
def owe0 (c : Dev nD) : CellTallies nD τ sig Unit := owe1 c + tallyAt (cell (px c) .recv0) () NO
def oweT (c : Dev nD) : CellTallies nD τ sig Unit := owe0 c + oweMid c
def oweY (c : Dev nD) : CellTallies nD τ sig Unit := oweT c + tallyAt (cell (py c) .bar) () 1
/-- The two outputs' halves, the state or acknowledgement, the two barrier units. -/
def O₀ (c : Dev nD) : CellTallies nD τ sig Unit := oweY c + tallyAt (cell (px c) .bar) () 1

def L (g : GSem nD τ sig) : Finset Unit := if g.1.2 = .tc then {()} else ∅
def lev : Role → ℕ
  | .bar => 1 | .hrecv => 2 | .ack => 3 | .recv0 => 3 | .recv1 => 3 | _ => 0
def lv (g : GSem nD τ sig) (_ : Unit) : ℕ := lev (role g.2)

theorem L_of_ne (g : GSem nD τ sig) (h : g.1.2 ≠ .tc) : L g = ∅ := if_neg h
theorem L_tc (c : Dev nD) (sm : SemLoc sig) : L ((c : Thread nD τ), sm) = {()} := if_pos rfl

/-- Every cell owed is a TensorCore's, at a level above `n`. -/
def Above (n : ℕ) (O : CellTallies nD τ sig Unit) : Prop := ∀ g u, 0 < O g u → u ∈ L g ∧ n < lv g u

theorem Above.tally {n : ℕ} (c : Dev nD) (k : Role) (hk : k ≠ .other) (a : ℕ) (h : n < lev k) : Above n (tallyAt (cell c k) () a) := fun g u hg => by
  rw [tallyAt_apply] at hg
  by_cases e : g = cell c k ∧ u = ()
  · rw [e.1]
    refine ⟨by rw [L_tc]; exact Finset.mem_singleton_self _, ?_⟩
    show n < lev (role (semOf k))
    rwa [role_semOf k hk]
  · rw [if_neg e] at hg; exact absurd hg (Nat.lt_irrefl 0)
theorem Above.add {n : ℕ} {O O' : CellTallies nD τ sig Unit} (h : Above n O) (h' : Above n O') : Above n (O + O') := fun g u hg => by
  have hg' : 0 < O g u + O' g u := hg
  rcases Nat.eq_zero_or_pos (O g u) with e | e
  · exact h' g u (by omega)
  · exact h g u e

theorem above_mid (c : Dev nD) : Above 1 (oweMid c) := by
  unfold oweMid; split
  · exact .tally _ .hrecv (by decide) _ (by decide)
  · exact .tally _ .ack (by decide) _ (by decide)
theorem above_owe0 (c : Dev nD) : Above 2 (owe0 c) :=
  Above.add (.tally _ .recv1 (by decide) _ (by decide)) (.tally _ .recv0 (by decide) _ (by decide))
theorem Above.mono {n n' : ℕ} {O : CellTallies nD τ sig Unit} (h : Above n O) (hn : n' ≤ n) : Above n' O :=
  fun g u hg => ⟨(h g u hg).1, Nat.lt_of_le_of_lt hn (h g u hg).2⟩
theorem above_oweT (c : Dev nD) : Above 1 (oweT c) := ((above_owe0 c).mono (by decide)).add (above_mid c)

/-- A wait below everything owed. -/
theorem mayWait (c : Dev nD) (k : Role) (hk : k ≠ .other) (O : CellTallies nD τ sig Unit) (h : Above (lev k) O) :
    (levAts L lv : sProp 𝕄) ⊢ MayWait (c : Thread nD τ) (semOf k) () O :=
  MayOwe.of_cut (L := L) (lev := lv) (lev k) (fun p hp => by rw [Finset.mem_singleton.mp hp, L_tc]; exact Finset.mem_singleton_self _)
    (fun g u hg => (h g u hg).1)
    (fun p hp => by rw [Finset.mem_singleton.mp hp]; exact le_of_eq (congrArg lev (role_semOf k hk)))
    (fun g u hg => (h g u hg).2)

end Cert.KernelIdeal.Scan
-- ==== Proof.KernelIdeal.Ops.lean ====
/- The protocol's operations at its cells: a signal, a wait, a copy to a neighbour. -/
module

public import proofs.«01_k».proof.Proof.KernelIdeal.Protocol

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → Stage F)

/-! ## The cells together -/

/-- The roles of the cells whose semaphores live only during the call. -/
def roleS : Fin 7 → Role := ![.hrecv, .hsend, .ack, .send0, .send1, .recv0, .recv1]
theorem roleS_ne (i : Fin 7) : roleS i ≠ .other := by revert i; decide
theorem roleS_ne_bar (i : Fin 7) : semOf (roleS i) ≠ .reg barS := by revert i; decide
theorem semS_inj : Function.Injective (fun i : Fin 7 => semOf (roleS i)) := by decide

def barEmb : Dev nD ↪ GSem nD τ sig := ⟨fun c => cell c .bar, fun _ _ h => congrArg (fun g : GSem nD τ sig => g.1.1) h⟩
def scEmb : Dev nD × Fin 7 ↪ GSem nD τ sig :=
  ⟨fun ck => cell ck.1 (roleS ck.2), fun _ _ h =>
    Prod.ext (congrArg (fun g : GSem nD τ sig => g.1.1) h) (semS_inj (congrArg Prod.snd h))⟩
abbrev barCells : Finset (GSem nD τ sig) := Finset.univ.map barEmb
abbrev scCells : Finset (GSem nD τ sig) := Finset.univ.map scEmb

theorem role_cases (k : Role) (hk : k ≠ .other) : k = .bar ∨ ∃ i, k = roleS i := by
  cases k
  · exact .inl rfl
  · exact .inr ⟨0, rfl⟩
  · exact .inr ⟨1, rfl⟩
  · exact .inr ⟨2, rfl⟩
  · exact .inr ⟨3, rfl⟩
  · exact .inr ⟨4, rfl⟩
  · exact .inr ⟨5, rfl⟩
  · exact .inr ⟨6, rfl⟩
  · exact absurd rfl hk

theorem cell_mem (c : Dev nD) (k : Role) (hk : k ≠ .other) : cell c k ∈ (barCells ∪ scCells : Finset (GSem nD τ sig)) := by
  rcases role_cases k hk with rfl | ⟨i, rfl⟩
  · exact Finset.mem_union_left _ (Finset.mem_map_of_mem barEmb (Finset.mem_univ c))
  · exact Finset.mem_union_right _ (Finset.mem_map_of_mem scEmb (Finset.mem_univ (c, i)))

/-- The records every device may consult: all the invariants under one map of names; round 0 of every barrier cell reached. -/
def records (κ : GSem nD τ sig → ℕ) : sProp 𝕄 :=
  iprop((bigSep (barCells ∪ scCells) fun g => cellInv ER (rd st) (κ g) g) ∗ bigSep barCells fun g => reached ER g 0)

instance records_persistent (κ : GSem nD τ sig → ℕ) : BI.Persistent (records st κ) := by unfold records; infer_instance

theorem inv_at (κ : GSem nD τ sig → ℕ) (c : Dev nD) (k : Role) (hk : k ≠ .other) : records st κ ⊢ cellInv ER (rd st) (κ (cell c k)) (cell c k) := by
  unfold records
  iintro ⟨H, -⟩
  iapply (show (bigSep (barCells ∪ scCells) fun g => (cellInv ER (rd st) (κ g) g : sProp 𝕄)) ⊢ cellInv ER (rd st) (κ (cell c k)) (cell c k) from
    bigSep_elim (cell_mem c k hk))
  iexact H

theorem reached_bar (κ : GSem nD τ sig → ℕ) (c : Dev nD) : records st κ ⊢ reached ER (cell c .bar) 0 := by
  unfold records
  iintro ⟨-, H⟩
  iapply (show (bigSep barCells fun g => (reached ER g 0 : sProp 𝕄)) ⊢ reached ER (cell c .bar) 0 from
    bigSep_elim (Finset.mem_map_of_mem barEmb (Finset.mem_univ c)))
  iexact H

theorem duty_hsend (c : Dev nD) (h : First c) : duty c .hsend = {false} := if_pos h
theorem duty_hrecv (c : Dev nD) (h : ¬ First c) : duty c .hrecv = {false} := if_neg h
theorem duty_ack (c : Dev nD) (h : First c) : duty c .ack = {false} := if_pos h

/-! ## Signals and waits -/

/-- The device owes `O`. -/
abbrev Owe (c : Dev nD) (O : CellTallies nD τ sig Unit) : sProp 𝕄 := iprop(∃ W, owes (c : Thread nD τ) O W)

/-- A unit signalled to a cell. -/
theorem wp_sig (κ : GSem nD τ sig → ℕ) (c dst : Dev nD) (k : Role) (hk : k ≠ .other) (s : Sem sig) (hs : semOf k = .reg s) (d : Bool) (hd : d ∈ duty dst k) (ha : amt k = 1)
    (O : CellTallies nD τ sig Unit) {β : Type} (K : PUnit → Prog (𝔼 F) β) (Q : β → sProp 𝕄) :
    iprop(records st κ ∗ Owe c (O + tallyAt (cell dst k) () 1) ∗ dutyTok ER (cell dst k) 0 d ∗ pay st dst k d ∗ reached ER (cell dst k) 0
      ∗ (Owe c O -∗ WP c (K ⟨⟩) Q))
    ⊢ WP c (semSignalWord dst s 1#32 >>= K) Q := by
  have hc : cell dst k = ((dst : Thread nD τ), SemLoc.reg s) := by unfold cell; rw [hs]
  have e1 : (rd (F := F) st).duties ((dst : Thread nD τ), SemLoc.reg s) 0 = duty dst k := hc ▸ duties_eq st dst k hk
  have e2 : (rd (F := F) st).amount ((dst : Thread nD τ), SemLoc.reg s) 0 d = 1 := (hc ▸ amount_eq st dst k hk d : _ = amt k).trans ha
  have e3 : (rd (F := F) st).payload ((dst : Thread nD τ), SemLoc.reg s) 0 d = pay st dst k d := hc ▸ payload_eq st dst k hk d
  have ei := inv_at st κ dst k hk
  rw [hc] at ei ⊢
  istart
  iintro ⟨#HR, ⟨%W, HO⟩, Ht, Hp, #Hr, Hk⟩
  iapply (Rounds.wp_signal 𝒱₀ ER (rd st) (c : Thread nD τ) none (dst := (dst : Thread nD τ)) (sem := s) (r := 0) (d := d) (k' := 1)
    (κ := κ ((dst : Thread nD τ), SemLoc.reg s)) (by rw [e1]; exact hd) e2 () O rfl (k := K)) $$ [HO Ht Hp]
  · isplitr; · iapply ei; iexact HR
    isplitl [HO]; · iexact HO
    isplitl [Ht]; · iexact Ht
    isplitl [Hp]; · rw [e3]; iexact Hp
    iexact Hr
  iintro HO
  iapply Hk
  iexists W; iexact HO

/-- A wait for a cell's whole round. -/
theorem wp_wait (κ : GSem nD τ sig → ℕ) (c : Dev nD) (k : Role) (hk : k ≠ .other) (e : TpuEff nD τ sig (Elt F) Λ₀ .tc PUnit) (n : ℕ)
    (hw : ∀ X : PUnit → sProp 𝕄, wpE (defs₀ (F := F)) 𝒱₀ (c : Thread nD τ) none Set.univ e X = waitSpec (c : Thread nD τ) Set.univ (semOf k) n X)
    (hn : (rd (F := F) st).expect (cell c k) 0 = n) (O : CellTallies nD τ sig Unit) (hO : (levAts L lv : sProp 𝕄) ⊢ MayWait (c : Thread nD τ) (semOf k) () O)
    {β : Type} (K : PUnit → Prog (𝔼 F) β) (Q : β → sProp 𝕄) :
    iprop(records st κ ∗ levAts L lv ∗ cred (tallyAt (cell c k) () n) ∗ Owe c O ∗ atPos ER (cell c k) 0 ∅ 0
      ∗ ((Owe c O ∗ atPos ER (cell c k) 1 ∅ 0 ∗ bigSep ((rd (F := F) st).duties (cell c k) 0 \ ∅) (fun d => (rd (F := F) st).payload (cell c k) 0 d)) -∗ WP c (K ⟨⟩) Q))
    ⊢ WP c (.op e K) Q := by
  have ei := inv_at st κ c k hk
  istart
  iintro ⟨#HR, #HL, Hc, ⟨%W, HO⟩, Hat, Hk⟩
  iapply (Rounds.wp_wait_rest_token 𝒱₀ ER (rd st) (c : Thread nD τ) none (κ := κ (cell c k)) (w := e) (sm := semOf k)
      hw (Set.mem_univ _) () (O := O) (W := W) (R := 0) (m := 0) (T := ∅) (k' := n) (k := K)
      ((Nat.zero_add n).trans hn.symm)) $$ [Hc HO Hat]
  · isplitr; · iapply ei; iexact HR
    isplitl [Hc]; · iexact Hc
    isplitl [HO]; · iexact HO
    isplitr; · iapply hO; iexact HL
    iexact Hat
  iintro ⟨HO, Hat, -, Hp⟩
  iapply Hk
  isplitl [HO]; · iexists _; iexact HO
  isplitl [Hat]; · iexact Hat
  iexact Hp

/-- A wait for a cell with one duty. -/
theorem wp_wait_one (κ : GSem nD τ sig → ℕ) (c : Dev nD) (k : Role) (hk : k ≠ .other) (hd : duty c k = {false}) (e : TpuEff nD τ sig (Elt F) Λ₀ .tc PUnit)
    (hw : ∀ X : PUnit → sProp 𝕄, wpE (defs₀ (F := F)) 𝒱₀ (c : Thread nD τ) none Set.univ e X = waitSpec (c : Thread nD τ) Set.univ (semOf k) (amt k) X)
    (O : CellTallies nD τ sig Unit) (hO : (levAts L lv : sProp 𝕄) ⊢ MayWait (c : Thread nD τ) (semOf k) () O)
    {β : Type} (K : PUnit → Prog (𝔼 F) β) (Q : β → sProp 𝕄) :
    iprop(records st κ ∗ levAts L lv ∗ cred (tallyAt (cell c k) () (amt k)) ∗ Owe c O ∗ atPos ER (cell c k) 0 ∅ 0
      ∗ ((Owe c O ∗ atPos ER (cell c k) 1 ∅ 0 ∗ pay st c k false) -∗ WP c (K ⟨⟩) Q))
    ⊢ WP c (.op e K) Q := by
  have := wp_wait st κ c k hk e (amt k) hw (expect_one st c k hk hd) O hO K Q
  rwa [rest_one st c k hk hd] at this

theorem mayWait_none (c : Dev nD) (k : Role) : (levAts L lv : sProp 𝕄) ⊢ MayWait (c : Thread nD τ) (semOf k) () (0 : CellTallies nD τ sig Unit) := by
  rw [MayWait_zero]; iintro -; iempintro

/-! ## Copies to a neighbour -/

theorem hPts_eq (c : Dev nD) (f : FVec F S8x16x256 .f32) : hPts c f = (pt c cc0_scratch1 f : sProp 𝕄) := by
  unfold hPts; rw [show mH.view.set = Finset.univ from View.set_whole _]

theorem landed_h (fd fs : FVec F S8x16x256 .f32) : mH.view.write (Elt F) fd (mH.view.read (Elt F) fs) Finset.univ = fs := by
  show (View.whole cc0_scratch1).write (Elt F) fd ((View.whole cc0_scratch1).read (Elt F) fs) Finset.univ = fs
  rw [View.read_whole]; exact View.write_whole_univ _ _ _

theorem landed_lo (c : Dev nD) (fd fs : Vec F S8x32x16x256 .bf16) :
    (tLo c ((lo8 mTheirs).view.write (Elt F) fd ((lo8 mMine).view.read (Elt F) fs) Finset.univ) : sProp 𝕄) = tLo c fs := by
  refine pointsTo_congr fun i hi => ?_
  obtain ⟨j, -, rfl⟩ := Finset.mem_map.mp hi
  rw [View.write_emb_of_mem _ _ (Finset.mem_univ _)]; rfl
theorem landed_hi (c : Dev nD) (fd fs : Vec F S8x32x16x256 .bf16) :
    (tHi c ((hi8 mTheirs).view.write (Elt F) fd ((hi8 mMine).view.read (Elt F) fs) Finset.univ) : sProp 𝕄) = tHi c fs := by
  refine pointsTo_congr fun i hi => ?_
  obtain ⟨j, -, rfl⟩ := Finset.mem_map.mp hi
  rw [View.write_emb_of_mem _ _ (Finset.mem_univ _)]; rfl

/-- A copy to a neighbour, from the cell of role `kS` to that of role `kR`. -/
theorem wp_copy (κ : GSem nD τ sig → ℕ) (c c' : Dev nD) (kS kR : Role) (hS : kS ≠ .other) (hR : kR ≠ .other) {s : Shape} {e : EltTy}
    (src dst : Memref sig .tc .vmem s e) {hsc : dst.view.ref.isScScratch = false}
    (fs : Buf (Elt F) (src.view.loc (c : Thread nD τ))) (fd : Buf (Elt F) (dst.view.loc (c' : Thread nD τ))) (n : ℕ) (hN : dst.view.amount (semOf kR) = n)
    (haS : amt kS = n) (haR : amt kR = n) (hdS : false ∈ duty c kS) (hdR : false ∈ duty c' kR)
    (hp : (src.view.loc (c : Thread nD τ) ↦[src.view.set]{fullShare} fs : sProp 𝕄) ⊢ pay st c kS false)
    (hp' : (dst.view.loc (c' : Thread nD τ) ↦[dst.view.set]{fullShare} (dst.view.write (Elt F) fd (src.view.read (Elt F) fs) Finset.univ) : sProp 𝕄) ⊢ pay st c' kR false)
    {hx hx' hty} (O : CellTallies nD τ sig Unit) {β : Type} (K : PUnit → Prog (𝔼 F) β) (Q : β → sProp 𝕄) :
    iprop(records st κ ∗ (src.view.loc (c : Thread nD τ) ↦[src.view.set]{fullShare} fs) ∗ (dst.view.loc (c' : Thread nD τ) ↦[dst.view.set]{fullShare} fd)
      ∗ Owe c (O + tallyAt (cell c' kR) () n) ∗ dutyTok ER (cell c kS) 0 false ∗ reached ER (cell c kS) 0 ∗ dutyTok ER (cell c' kR) 0 false ∗ reached ER (cell c' kR) 0
      ∗ ((cred (tallyAt (cell c kS) () n) ∗ Owe c O) -∗ WP c (K ⟨⟩) Q))
    ⊢ WP c (.op (.enqueueDma src (.remote (Dev.tc c') dst (semOf kS) hsc) (semOf kR) hx hx' hty) K) Q := by
  have ei := inv_at st κ c kS hS
  have ei' := inv_at st κ c' kR hR
  istart
  iintro ⟨#HR, Hs, Hd, ⟨%W, HO⟩, Ht, #Hr, Ht', #Hr', Hk⟩
  iapply (Rounds.wp_send_pointsTo 𝒱₀ ER (rd st) (c : Thread nD τ) none (c' := (c' : Thread nD τ)) (src := src) (dst := dst)
      (sS := semOf kS) (sem := semOf kR) (q := fullShare) (fs := fs) (κ₁ := κ (cell c kS)) (κ₂ := κ (cell c' kR))
      (r₁ := 0) (r₂ := 0) (d₁ := false) (d₂ := false) (fd := fd) (k := K)
      (by rw [duties_eq st c kS hS]; exact hdS) (by rw [duties_eq st c' kR hR]; exact hdR)
      () () n hN ((amount_eq st c kS hS false).trans haS) ((amount_eq st c' kR hR false).trans haR) O rfl (W := W)
      (by rw [payload_eq st c kS hS false]; exact hp) (by rw [payload_eq st c' kR hR false]; exact hp')) $$ [Hs Hd HO Ht Ht']
  · isplitr; · iapply ei; iexact HR
    isplitr; · iapply ei'; iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-- The state's copy to the second half of the time axis. -/
theorem wp_sendH (κ : GSem nD τ sig → ℕ) (c : Dev nD) (hf : First c) (fd : FVec F S8x16x256 .f32) (d : Dev nD) (hd : d = py c) {hx hx' hty} (O : CellTallies nD τ sig Unit)
    {β : Type} (K : PUnit → Prog (𝔼 F) β) (Q : β → sProp 𝕄) :
    iprop(records st κ ∗ hPts c (hOut st c) ∗ hPts (py c) fd ∗ Owe c (O + tallyAt (cell (py c) .hrecv) () NH)
      ∗ dutyTok ER (cell c .hsend) 0 false ∗ reached ER (cell c .hsend) 0 ∗ dutyTok ER (cell (py c) .hrecv) 0 false ∗ reached ER (cell (py c) .hrecv) 0
      ∗ ((cred (tallyAt (cell c .hsend) () NH) ∗ Owe c O) -∗ WP c (K ⟨⟩) Q))
    ⊢ WP c (.op (.enqueueDma mH (.remote (Dev.tc d) mH (.dma hsS)) (.dma hrS) hx hx' hty) K) Q := by
  subst hd
  have hf' : ¬ First (py c) := fun h => (first_py c).mp h hf
  have hin : hIn st (py c) = hOut st c := by
    unfold hIn hOut; rw [if_neg hf', py_py]; unfold hIn; rw [if_pos hf]
  exact wp_copy st κ c (py c) .hsend .hrecv (by decide) (by decide) mH mH (hOut st c) fd NH rfl rfl rfl
    (by rw [duty_hsend c hf]; exact Finset.mem_singleton_self _) (by rw [duty_hrecv _ hf']; exact Finset.mem_singleton_self _)
    (BI.Entails.refl _) (by rw [landed_h]; unfold pay; rw [hin]) O K Q

/-- The copy of the output's first half to the neighbour. -/
theorem wp_sendLo (κ : GSem nD τ sig → ℕ) (c : Dev nD) (fd : Vec F S8x32x16x256 .bf16) (d : Dev nD) (hd : d = px c) {hx hx' hty} (O : CellTallies nD τ sig Unit)
    {β : Type} (K : PUnit → Prog (𝔼 F) β) (Q : β → sProp 𝕄) :
    iprop(records st κ ∗ mLo c (mineF st c) ∗ tLo (px c) fd ∗ Owe c (O + tallyAt (cell (px c) .recv0) () NO)
      ∗ dutyTok ER (cell c .send0) 0 false ∗ reached ER (cell c .send0) 0 ∗ dutyTok ER (cell (px c) .recv0) 0 false ∗ reached ER (cell (px c) .recv0) 0
      ∗ ((cred (tallyAt (cell c .send0) () NO) ∗ Owe c O) -∗ WP c (K ⟨⟩) Q))
    ⊢ WP c (.op (.enqueueDma (lo8 mMine) (.remote (Dev.tc d) (lo8 mTheirs) (.dma os0)) (.dma or0) hx hx' hty) K) Q := by
  subst hd
  exact wp_copy st κ c (px c) .send0 .recv0 (by decide) (by decide) (lo8 mMine) (lo8 mTheirs) (mineF st c) fd NO rfl rfl rfl
    (Finset.mem_singleton_self _) (Finset.mem_singleton_self _)
    (BI.Entails.refl _) (by unfold pay; rw [px_px]; exact Entails.of_eq (landed_lo (px c) fd (mineF st c))) O K Q

/-- … and of the second half. -/
theorem wp_sendHi (κ : GSem nD τ sig → ℕ) (c : Dev nD) (fd : Vec F S8x32x16x256 .bf16) (d : Dev nD) (hd : d = px c) {hx hx' hty} (O : CellTallies nD τ sig Unit)
    {β : Type} (K : PUnit → Prog (𝔼 F) β) (Q : β → sProp 𝕄) :
    iprop(records st κ ∗ mHi c (mineF st c) ∗ tHi (px c) fd ∗ Owe c (O + tallyAt (cell (px c) .recv1) () NO)
      ∗ dutyTok ER (cell c .send1) 0 false ∗ reached ER (cell c .send1) 0 ∗ dutyTok ER (cell (px c) .recv1) 0 false ∗ reached ER (cell (px c) .recv1) 0
      ∗ ((cred (tallyAt (cell c .send1) () NO) ∗ Owe c O) -∗ WP c (K ⟨⟩) Q))
    ⊢ WP c (.op (.enqueueDma (hi8 mMine) (.remote (Dev.tc d) (hi8 mTheirs) (.dma os1)) (.dma or1) hx hx' hty) K) Q := by
  subst hd
  exact wp_copy st κ c (px c) .send1 .recv1 (by decide) (by decide) (hi8 mMine) (hi8 mTheirs) (mineF st c) fd NO rfl rfl rfl
    (Finset.mem_singleton_self _) (Finset.mem_singleton_self _)
    (BI.Entails.refl _) (by unfold pay; rw [px_px]; exact Entails.of_eq (landed_hi (px c) fd (mineF st c))) O K Q

end Cert.KernelIdeal.Scan
-- ==== Proof.KernelIdeal.Parts.lean ====
/- The body's parts, each at a symbolic device. -/
module

public import proofs.«01_k».proof.Proof.KernelIdeal.Ops

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → Stage F)

/-! ## The entry handshake -/

/-- Spent by the handshake. -/
def shakePre (c : Dev nD) : sProp 𝕄 :=
  iprop(Owe c (O₀ c) ∗ dutyTok ER (cell (px c) .bar) 0 false ∗ dutyTok ER (cell (py c) .bar) 0 true
    ∗ (∃ f, tLo c f) ∗ (∃ f, tHi c f) ∗ (∃ f, hPts c f)
    ∗ reached ER (cell c .recv0) 0 ∗ reached ER (cell c .recv1) 0 ∗ reached ER (cell c .hrecv) 0 ∗ reached ER (cell c .ack) 0
    ∗ cred (tallyAt (cell c .bar) () 2) ∗ atPos ER (cell c .bar) 0 ∅ 0)
/-- Given by it: the neighbours' buffers; the own state buffer stays on the first half only. -/
def shakePost (c : Dev nD) : sProp 𝕄 :=
  iprop(Owe c (oweT c) ∗ atPos ER (cell c .bar) 1 ∅ 0 ∗ barPayX c ∗ barPayY c ∗ (if First c then iprop(∃ f, hPts c f) else iprop(emp)))

theorem wp_shake (κ : GSem nD τ sig → ℕ) (c : Dev nD) {β : Type} (K : PUnit → Prog (𝔼 F) β) (Q : β → sProp 𝕄) :
    iprop(records st κ ∗ levAts L lv ∗ shakePre c ∗ (shakePost c -∗ WP c (K ⟨⟩) Q))
    ⊢ WP c (semSignalWord (px c) barS 1#32 >>= fun _ => semSignalWord (py c) barS 1#32 >>= fun _ => semWaitWord barS 2#32 >>= K) Q := by
  unfold shakePre shakePost
  istart
  iintro ⟨#HR, #HL, ⟨HO, HtX, HtY, HtLo, HtHi, Hh, #Hr0, #Hr1, #Hrh, #Hra, Hc, Hat⟩, Hk⟩
  iapply (wp_sig st κ c (px c) .bar (by decide) barS rfl false (show false ∈ ({false, true} : Finset Bool) by decide) rfl (oweY c))
  isplitr; · iexact HR
  isplitl [HO]; · iexact HO
  isplitl [HtX]; · iexact HtX
  isplitl [HtLo HtHi]
  · unfold pay barPayX
    rw [px_px]
    isplitl [HtLo]; · iexact HtLo
    isplitl [HtHi]; · iexact HtHi
    isplitr; · iexact Hr0
    iexact Hr1
  isplitr; · iapply (reached_bar st κ (px c)); iexact HR
  iintro HO
  ihave HY : iprop(barPayY (py c) ∗ (if First c then iprop(∃ f, hPts c f) else iprop(emp))) $$ [Hh]
  · unfold barPayY
    rw [py_py]
    by_cases hf : First c
    · rw [if_pos hf, if_neg (fun h => (first_py c).mp h hf)]
      isplitr; · iexact Hra
      iexact Hh
    · rw [if_neg hf, if_pos ((first_py c).mpr hf)]
      isplitl;
      · isplitl [Hh]; · iexact Hh
        iexact Hrh
      iempintro
  icases HY with ⟨HY, Hh⟩
  iapply (wp_sig st κ c (py c) .bar (by decide) barS rfl true (show true ∈ ({false, true} : Finset Bool) by decide) rfl (oweT c))
  isplitr; · iexact HR
  isplitl [HO]; · iexact HO
  isplitl [HtY]; · iexact HtY
  isplitl [HY]; · unfold pay; iexact HY
  isplitr; · iapply (reached_bar st κ (py c)); iexact HR
  iintro HO
  iapply (wp_wait st κ c .bar (by decide) (.semWait barS 2) 2 (wpE_semWait_eq 𝒱₀ (c : Thread nD τ) none Set.univ) (expect_bar st c) (oweT c)
    (mayWait c .bar (by decide) (oweT c) (above_oweT c)) K Q)
  isplitr; · iexact HR
  isplitr; · iexact HL
  isplitl [Hc]; · iexact Hc
  isplitl [HO]; · iexact HO
  isplitl [Hat]; · iexact Hat
  rw [rest_bar]
  iintro ⟨HO, Hat, HX, HY⟩
  iapply Hk
  isplitl [HO]; · iexact HO
  isplitl [Hat]; · iexact Hat
  isplitl [HX]; · iexact HX
  isplitl [HY]; · iexact HY
  iexact Hh

theorem read_rH (f : FVec F S8x16x256 .f32) : mH.view.readAt (Elt F) rH.toLoadRect f = f :=
  Memref.readAt_unit_zero (Elt F) cc0_scratch1 hz3 _ f
theorem write_rH (f w : FVec F S8x16x256 .f32) : (mH.access rH).write (Elt F) f w Finset.univ = w :=
  Memref.write_access_unit_zero_univ (Elt F) cc0_scratch1 hz3 _ f w
theorem read_rA (f : FVec F S16x256 .bf16) : mA.view.readAt (Elt F) rA.toLoadRect f = f :=
  Memref.readAt_unit_zero (Elt F) cc0_stg3_0 hz2 _ f
theorem read_rA16 (f : FVec F S16x256 .bf16) : mA16.view.readAt (Elt F) rA.toLoadRect f = f :=
  Memref.readAt_unit_zero (Elt F) cc0_stg4_0 hz2 _ f

/-- What the state buffer's owner holds after the entry. -/
def hKept (c : Dev nD) (f : FVec F S8x16x256 .f32) : sProp 𝕄 := if First c then hPts c f else iprop(emp)

def entryRest (c : Dev nD) (s : Stage F) : sProp 𝕄 := iprop(pt c cc0_stg0_0 s.x ∗ pt c cc0_stg3_0 s.a ∗ pt c cc0_stg4_0 s.a16)

/-- The test of the closing waits. -/
theorem closing_iff (c : Dev nD) :
    (Scalar.cmpi .ne (Scalar.extui (Scalar.cmpi .eq (Scalar.remsi (Scalar.divsi (Dev.word c) 1#32) 2#32) 0#32) : BitVec 32) 0#32 = 1#1) ↔ First c := by
  revert c; decide

theorem wp_entry (κ : GSem nD τ sig → ℕ) (c : Dev nD) (s : Stage F) {β : Type} (K : _ → Prog (𝔼 F) β) (Q : β → sProp 𝕄) :
    iprop(records st κ ∗ levAts L lv ∗ shakePre c ∗ entryRest c s
      ∗ ((Owe c (oweT c) ∗ atPos ER (cell c .bar) 1 ∅ 0 ∗ barPayX c ∗ barPayY c ∗ hKept c k0_pay1 ∗ entryRest c s) -∗
        WP c (K ⟨c, Scalar.remsi (Scalar.divsi (Dev.word c) 2#32) 2#32, Scalar.remsi (Scalar.divsi (Dev.word c) 1#32) 2#32,
          Scalar.subi 1#32 (Scalar.remsi (Scalar.divsi (Dev.word c) 2#32) 2#32), s.dA, s.d16, k0_pay4 (s.xs 0)⟩) Q))
    ⊢ WP c (entry mX mA mA16 mH c >>= K) Q := by
  unfold entry
  rw [dev1_eq, dev2_eq]
  simp only [Prog.bind_assoc]
  istart
  iintro ⟨#HR, #HL, Hpre, Hrest, Hk⟩
  iapply (wp_shake st κ c)
  isplitr; · iexact HR
  isplitr; · iexact HL
  isplitl [Hpre]; · iexact Hpre
  unfold shakePost
  iintro ⟨HO, Hat, HX, HY, Hh⟩
  unfold hKept entryRest
  by_cases hf : First c
  · simp only [if_pos hf, if_pos ((isFirst_iff c).mpr hf), Prog.lift, Prog.bind_op, Prog.bind_ret, Prog.pure_eq_ret]
    icases Hh with ⟨%f, Hh⟩
    simp only [hPts_eq]
    iapply (wp_load 𝒱₀ (c : Thread nD τ) none Set.univ (Finset.subset_univ _)) $$ [Hh] [-]
    · iexact Hh
    iintro Hh
    iapply (wp_store 𝒱₀ (c : Thread nD τ) none Set.univ (Finset.subset_univ _)) $$ [Hh] [-]
    · iexact Hh
    iintro Hh
    icases Hrest with ⟨Hx, Ha, Ha16⟩
    iapply (wp_load 𝒱₀ (c : Thread nD τ) none Set.univ (Finset.subset_univ _)) $$ [Ha] [-]
    · iexact Ha
    iintro Ha
    iapply (wp_load 𝒱₀ (c : Thread nD τ) none Set.univ (Finset.subset_univ _)) $$ [Ha16] [-]
    · iexact Ha16
    iintro Ha16
    iapply (wp_load 𝒱₀ (c : Thread nD τ) none Set.univ (Finset.subset_univ _)) $$ [Hx] [-]
    · iexact Hx
    iintro Hx
    rw [write_rH, read_rA, read_rA16]
    iapply Hk
    isplitl [HO]; · iexact HO
    isplitl [Hat]; · iexact Hat
    isplitl [HX]; · iexact HX
    isplitl [HY]; · iexact HY
    isplitl [Hh]; · iexact Hh
    isplitl [Hx]; · iexact Hx
    isplitl [Ha]; · iexact Ha
    iexact Ha16
  · simp only [if_neg hf, if_neg (fun h => hf ((isFirst_iff c).mp h)), Prog.lift, Prog.bind_op, Prog.bind_ret, Prog.pure_eq_ret]
    icases Hrest with ⟨Hx, Ha, Ha16⟩
    iapply (wp_load 𝒱₀ (c : Thread nD τ) none Set.univ (Finset.subset_univ _)) $$ [Ha] [-]
    · iexact Ha
    iintro Ha
    iapply (wp_load 𝒱₀ (c : Thread nD τ) none Set.univ (Finset.subset_univ _)) $$ [Ha16] [-]
    · iexact Ha16
    iintro Ha16
    iapply (wp_load 𝒱₀ (c : Thread nD τ) none Set.univ (Finset.subset_univ _)) $$ [Hx] [-]
    · iexact Hx
    iintro Hx
    rw [read_rA, read_rA16]
    iapply Hk
    isplitl [HO]; · iexact HO
    isplitl [Hat]; · iexact Hat
    isplitl [HX]; · iexact HX
    isplitl [HY]; · iexact HY
    isplitl [Hh]; · iexact Hh
    isplitl [Hx]; · iexact Hx
    isplitl [Ha]; · iexact Ha
    iexact Ha16

/-! ## The state received -/

theorem rows_zero (s : Stage F) (H : FVec F S8x16x256 .f32) : s.rows H 0 = s.loc 15 := by
  funext i; unfold Stage.rows; rw [if_neg (Nat.not_lt_zero _)]

/-- What the send needs of the handshake. -/
def lentH (c : Dev nD) : sProp 𝕄 := if First c then iprop((∃ f, hPts (py c) f) ∗ reached ER (cell (py c) .hrecv) 0) else iprop(emp)
def oweR (c : Dev nD) : CellTallies nD τ sig Unit := if First c then oweT c else owe0 c

def recvPre (c : Dev nD) : sProp 𝕄 :=
  iprop(Owe c (oweT c) ∗ hKept c k0_pay1 ∗ barPayY c ∗ cred (tallyAt (cell c .hrecv) () (if First c then 0 else NH)) ∗ atPos ER (cell c .hrecv) 0 ∅ 0
    ∗ dutyTok ER (cell (py c) .ack) 0 false)
def recvPost (c : Dev nD) : sProp 𝕄 :=
  iprop(Owe c (oweR c) ∗ hPts c (hIn st c) ∗ lentH c ∗ atPos ER (cell c .hrecv) (if First c then 0 else 1) ∅ 0)

theorem wp_getH (κ : GSem nD τ sig → ℕ) (c : Dev nD) {γ β : Type} (T : Prog (𝔼 F) γ) (K : γ → Prog (𝔼 F) β) (Q : β → sProp 𝕄) (hw hw') :
    iprop(records st κ ∗ levAts L lv ∗ recvPre c ∗ (recvPost st c -∗ WP c (T >>= K) Q))
    ⊢ WP c ((if k0_h2 : k0_cond2 c = 1#1 then (do
        Prog.lift (.waitDma2 hrS mH mH hw hw')
        semSignalWord (⟨k0_dev3 c, k0_dev3_lt c k0_h2⟩ : Dev nD) ackS 1#32
        T) else T) >>= K) Q := by
  unfold recvPre recvPost hKept barPayY lentH oweR
  by_cases hf : First c
  · rw [dif_neg (fun h => (cond2_iff c).mp h hf)]
    simp only [if_pos hf, Prog.bind_ret, Prog.pure_eq_ret]
    istart
    iintro ⟨#HR, #HL, ⟨HO, Hh, HY, -, Hat, -⟩, Hk⟩
    iapply Hk
    isplitl [HO]; · iexact HO
    isplitl [Hh]; · unfold hIn; rw [if_pos hf]; iexact Hh
    isplitl [HY]; · iexact HY
    iexact Hat
  · have h2 := (cond2_iff c).mpr hf
    rw [dif_pos h2, dev3_eq c h2]
    simp only [if_neg hf, Prog.lift, Prog.bind_assoc, Prog.bind_op, Prog.bind_ret, Prog.pure_eq_ret]
    istart
    iintro ⟨#HR, #HL, ⟨HO, -, #Hra, Hc, Hat, Ht⟩, Hk⟩
    iapply (wp_wait_one st κ c .hrecv (by decide) (duty_hrecv c hf) (.waitDma2 hrS mH mH hw hw') (wpE_waitDma2_eq 𝒱₀ (c : Thread nD τ) none Set.univ) (oweT c)
      (mayWait c .hrecv (by decide) (oweT c) ((above_owe0 c).add (by unfold oweMid; rw [if_neg hf]; exact .tally _ .ack (by decide) _ (by decide)))))
    isplitr; · iexact HR
    isplitr; · iexact HL
    isplitl [Hc]; · iexact Hc
    isplitl [HO]; · iexact HO
    isplitl [Hat]; · iexact Hat
    iintro ⟨HO, Hat, Hh⟩
    iapply (wp_sig st κ c (py c) .ack (by decide) ackS rfl false (by rw [duty_ack _ ((first_py c).mpr hf)]; exact Finset.mem_singleton_self _) rfl (owe0 c))
    isplitr; · iexact HR
    isplitl [HO]; · unfold oweT oweMid; rw [if_neg hf]; iexact HO
    isplitl [Ht]; · iexact Ht
    isplitr; · unfold pay; iempintro
    isplitr; · iexact Hra
    iintro HO
    iapply Hk
    isplitl [HO]; · iexact HO
    isplitl [Hh]; · unfold pay; iexact Hh
    isplitr; · iempintro
    iexact Hat

theorem wp_receive (κ : GSem nD τ sig → ℕ) (c : Dev nD) (s : Stage F) {β : Type} (K : _ → Prog (𝔼 F) β) (Q : β → sProp 𝕄) :
    iprop(records st κ ∗ levAts L lv ∗ recvPre c ∗ pt c cc0_scratch0 (s.loc 15)
      ∗ ((recvPost st c ∗ pt c cc0_scratch0 (s.rows (hIn st c) 1)) -∗ WP c (K ⟨hIn st c, k0_pay29 (s.row 0), k0_pay31 s.d16⟩) Q))
    ⊢ WP c (receive mR wR mH wH cc0_scratch3 cc0_scratch4 c s.d16 >>= K) Q := by
  unfold receive
  simp only [Prog.bind_assoc]
  istart
  iintro ⟨#HR, #HL, Hpre, Hr, Hk⟩
  iapply (wp_getH st κ c)
  isplitr; · iexact HR
  isplitr; · iexact HL
  isplitl [Hpre]; · iexact Hpre
  unfold recvPost
  simp only [Prog.lift, Prog.bind_op, Prog.bind_ret, Prog.pure_eq_ret, hPts_eq]
  iintro ⟨HO, Hh, Hl, Hat⟩
  iapply (wp_load 𝒱₀ (c : Thread nD τ) none Set.univ (Finset.subset_univ _)) $$ [Hh] [-]
  · iexact Hh
  iintro Hh
  iapply (wp_load 𝒱₀ (c : Thread nD τ) none Set.univ (Finset.subset_univ _)) $$ [Hr] [-]
  · iexact Hr
  iintro Hr
  iapply (wp_load 𝒱₀ (c : Thread nD τ) none Set.univ (Finset.subset_univ _)) $$ [Hr] [-]
  · iexact Hr
  iintro Hr
  iapply (wp_store 𝒱₀ (c : Thread nD τ) none Set.univ (Finset.subset_univ _)) $$ [Hr] [-]
  · iexact Hr
  iintro Hr
  have e1 := read_row s (hIn st c) 0
  have e2 := write_row s (hIn st c) 0
  change mR.view.readAt (Elt F) (rR 0).toLoadRect (s.rows (hIn st c) 0) = _ at e1
  change (mR.access (rR 0)).write (Elt F) (s.rows (hIn st c) 0) (k0_pay30 (hIn st c)) Finset.univ = s.rows (hIn st c) 1 at e2
  rw [rows_zero] at e1 e2
  rw [read_rH, e1, e2]
  iapply Hk
  isplitr [Hr]
  · isplitl [HO]; · iexact HO
    isplitl [Hh]; · iexact Hh
    isplitl [Hl]; · iexact Hl
    iexact Hat
  iexact Hr

/-! ## The state sent -/

/-- What is left of the state buffer: the first half has a credit to wait for it. -/
def hAfter (c : Dev nD) : sProp 𝕄 := if First c then cred (tallyAt (cell c .hsend) () NH) else hPts c (hOut st c)

def sendPre (c : Dev nD) : sProp 𝕄 :=
  iprop(Owe c (oweR c) ∗ hPts c (hOut st c) ∗ lentH c ∗ dutyTok ER (cell c .hsend) 0 false ∗ reached ER (cell c .hsend) 0 ∗ dutyTok ER (cell (py c) .hrecv) 0 false)

theorem wp_putH (κ : GSem nD τ sig → ℕ) (c : Dev nD) {γ β : Type} (T : Prog (𝔼 F) γ) (K : γ → Prog (𝔼 F) β) (Q : β → sProp 𝕄) :
    iprop(records st κ ∗ sendPre st c ∗ ((Owe c (owe0 c) ∗ hAfter st c) -∗ WP c (T >>= K) Q))
    ⊢ WP c ((if k0_h3 : k0_cond3 c = 1#1 then (do
        Prog.lift (.enqueueDma mH (.remote (Dev.tc (⟨k0_dev4 c, k0_dev4_lt c k0_h3⟩ : Dev nD)) mH (.dma hsS)) (.dma hrS) wH.wordExact wH.wordExact ⟨⟨rfl, Or.inl rfl⟩, trivial⟩)
        T) else T) >>= K) Q := by
  unfold sendPre hAfter lentH oweR
  by_cases hf : First c
  · have h3 := (cond3_iff c).mpr hf
    rw [dif_pos h3]
    simp only [if_pos hf, Prog.lift, Prog.bind_op, Prog.bind_ret, Prog.pure_eq_ret]
    istart
    iintro ⟨#HR, ⟨HO, Hh, ⟨⟨%f, Hl⟩, #Hr'⟩, Ht, #Hr, Ht'⟩, Hk⟩
    iapply (wp_sendH st κ c hf f _ (dev4_eq c h3) (owe0 c))
    isplitr; · iexact HR
    isplitl [Hh]; · iexact Hh
    isplitl [Hl]; · iexact Hl
    isplitl [HO]; · unfold oweT oweMid; rw [if_pos hf]; iexact HO
    isplitl [Ht]; · iexact Ht
    isplitr; · iexact Hr
    isplitl [Ht']; · iexact Ht'
    isplitr; · iexact Hr'
    iintro ⟨Hc, HO⟩
    iapply Hk
    isplitl [HO]; · iexact HO
    iexact Hc
  · rw [dif_neg (fun h => hf ((cond3_iff c).mp h))]
    simp only [if_neg hf, Prog.bind_ret, Prog.pure_eq_ret]
    istart
    iintro ⟨#HR, ⟨HO, Hh, -, -, -, -⟩, Hk⟩
    iapply Hk
    isplitl [HO]; · iexact HO
    iexact Hh

end Cert.KernelIdeal.Scan
-- ==== Proof.KernelIdeal.Body.lean ====
/- The body at a symbolic device: the send, the output's two halves, the closing waits, and all of it in sequence. -/
module

public import proofs.«01_k».proof.Proof.KernelIdeal.Parts

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → Stage F)

/-! ## The output's two halves -/

abbrev loS : Finset S8x32x16x256.Idx := (lo8 mMine).view.set
abbrev hiS : Finset S8x32x16x256.Idx := (hi8 mMine).view.set

theorem mem_lo (i : S8x32x16x256.Idx) : i ∈ loS ↔ (i 2).val < 8 := by
  rw [show loS = (Rect.unit (s := S8x32x16x256) ![0, 0, 0, 0] S8x32x8x256.size inb_S8x32x16x256_S8x32x8x256_0_0_0_0).set from View.set_slice_whole cc0_stg5_0 _,
    Rect.mem_set_unit]
  constructor
  · intro h; exact (h 2).2.trans_eq (Nat.zero_add _)
  · intro h a
    match a with
    | ⟨0, _⟩ => exact ⟨Nat.zero_le _, (i 0).isLt.trans_eq (Nat.zero_add _).symm⟩
    | ⟨1, _⟩ => exact ⟨Nat.zero_le _, (i 1).isLt.trans_eq (Nat.zero_add _).symm⟩
    | ⟨2, _⟩ => exact ⟨Nat.zero_le _, h.trans_eq (Nat.zero_add _).symm⟩
    | ⟨3, _⟩ => exact ⟨Nat.zero_le _, (i 3).isLt.trans_eq (Nat.zero_add _).symm⟩

theorem mem_hi (i : S8x32x16x256.Idx) : i ∈ hiS ↔ 8 ≤ (i 2).val := by
  rw [show hiS = (Rect.unit (s := S8x32x16x256) ![0, 0, 8, 0] S8x32x8x256.size inb_S8x32x16x256_S8x32x8x256_0_0_8_0).set from View.set_slice_whole cc0_stg5_0 _,
    Rect.mem_set_unit]
  constructor
  · intro h; exact (h 2).1
  · intro h a
    match a with
    | ⟨0, _⟩ => exact ⟨Nat.zero_le _, (i 0).isLt.trans_eq (Nat.zero_add _).symm⟩
    | ⟨1, _⟩ => exact ⟨Nat.zero_le _, (i 1).isLt.trans_eq (Nat.zero_add _).symm⟩
    | ⟨2, _⟩ => exact ⟨h, (i 2).isLt⟩
    | ⟨3, _⟩ => exact ⟨Nat.zero_le _, (i 3).isLt.trans_eq (Nat.zero_add _).symm⟩

theorem lo_hi_disjoint : Disjoint loS hiS :=
  Finset.disjoint_left.mpr fun i h h' => absurd ((mem_lo i).mp h) (Nat.not_lt.mpr ((mem_hi i).mp h'))
theorem lo_hi_univ : (loS ∪ hiS : Finset S8x32x16x256.Idx) = Finset.univ :=
  Finset.eq_univ_iff_forall.mpr fun i => Finset.mem_union.mpr ((Nat.lt_or_ge (i 2).val 8).imp (mem_lo i).mpr (mem_hi i).mpr)

theorem split_mine (c : Dev nD) (f : Vec F S8x32x16x256 .bf16) : (pt c cc0_stg5_0 f : sProp 𝕄) ⊣⊢ iprop(mLo c f ∗ mHi c f) := by
  have := pointsTo_union (Ix := Unit) (U := UU) (Name := ℕ) (Lvl := ℕ) (Val := Elt F) (ℓ := mMine.view.loc (c : Thread nD τ)) (q := fullShare) (f := f) lo_hi_disjoint
  rwa [lo_hi_univ] at this
theorem split_theirs (c : Dev nD) (f : Vec F S8x32x16x256 .bf16) : (pt c cc0_stg6_0 f : sProp 𝕄) ⊣⊢ iprop(tLo c f ∗ tHi c f) := by
  have := pointsTo_union (Ix := Unit) (U := UU) (Name := ℕ) (Lvl := ℕ) (Val := Elt F) (ℓ := mTheirs.view.loc (c : Thread nD τ)) (q := fullShare) (f := f) lo_hi_disjoint
  rwa [lo_hi_univ] at this

/-- A step's elements: of its time step; and of the pair of time steps its store rewrites. -/
theorem mem_rX (t : Fin 16) (i : S8x32x16x256.Idx) (h : i ∈ (rX t).set) : (i 2).val = t.val := by
  have := Rect.mem_set_unit.mp h 2
  have h1 : t.val ≤ (i 2).val := this.1
  have h2 : (i 2).val < t.val + 1 := this.2
  omega
theorem mem_rY (t : Fin 16) (i : S8x32x16x256.Idx) (h : i ∈ (rY t).set) : (i 2).val / 2 = t.val / 2 := by
  have := Rect.mem_set_unit.mp h 2
  have h1 : t.val / 2 * 2 ≤ (i 2).val := this.1
  have h2 : (i 2).val < t.val / 2 * 2 + 2 := this.2
  omega

theorem in_lo (t : Fin 16) (ht : t.val < 8) : (rY t).set ⊆ loS ∧ (rX t).set ⊆ loS :=
  ⟨fun i hi => (mem_lo i).mpr (by have := mem_rY t i hi; omega), fun i hi => (mem_lo i).mpr (by have := mem_rX t i hi; omega)⟩
theorem in_hi (t : Fin 16) (ht : 8 ≤ t.val) : (rY t).set ⊆ hiS ∧ (rX t).set ⊆ hiS :=
  ⟨fun i hi => (mem_hi i).mpr (by have := mem_rY t i hi; omega), fun i hi => (mem_hi i).mpr (by have := mem_rX t i hi; omega)⟩

theorem lo_start (c : Dev nD) (s : Stage F) (H : FVec F S8x16x256 .f32) (m : Vec F S8x32x16x256 .bf16) :
    (mLo c m : sProp 𝕄) = minePt c loS (s.outAt H m 0) := congrArg _ (funext fun i => (if_neg (Nat.not_lt_zero _)).symm)
theorem lo_end (c : Dev nD) (s : Stage F) (H : FVec F S8x16x256 .f32) (m : Vec F S8x32x16x256 .bf16) :
    (minePt c loS (s.outAt H m 8) : sProp 𝕄) = mLo c (s.out H) := pointsTo_congr fun i hi => if_pos ((mem_lo i).mp hi)
theorem hi_start (c : Dev nD) (s : Stage F) (H : FVec F S8x16x256 .f32) (m : Vec F S8x32x16x256 .bf16) :
    (mHi c m : sProp 𝕄) = minePt c hiS (s.outAt H m 8) := pointsTo_congr fun i hi => (if_neg (Nat.not_lt.mpr ((mem_hi i).mp hi))).symm
theorem hi_end (c : Dev nD) (s : Stage F) (H : FVec F S8x16x256 .f32) (m : Vec F S8x32x16x256 .bf16) :
    (minePt c hiS (s.outAt H m 16) : sProp 𝕄) = mHi c (s.out H) := congrArg _ (funext fun i => if_pos (i 2).isLt)

/-! ## The send and the second pass's first step -/

theorem wp_send (κ : GSem nD τ sig → ℕ) (c : Dev nD) (s : Stage F) (H : FVec F S8x16x256 .f32) {β : Type} (K : _ → Prog (𝔼 F) β) (Q : β → sProp 𝕄) :
    iprop(records st κ ∗ sendPre st c ∗ (pt c cc0_stg0_0 s.x ∗ pt c cc0_stg1_0 s.b ∗ pt c cc0_scratch0 (s.run H 0))
      ∗ ((Owe c (owe0 c) ∗ hAfter st c ∗ pt c cc0_stg0_0 s.x ∗ pt c cc0_stg1_0 s.b ∗ pt c cc0_scratch0 (s.run H 0)) -∗
        WP c (K ⟨k0_pay115 s.dA (s.run H 0), k0_pay116 (s.xs 0) (s.bs 0)⟩) Q))
    ⊢ WP c (send mX mB mR mH wH cc0_scratch2 cc0_scratch3 c s.dA >>= K) Q := by
  unfold send
  istart
  iintro ⟨#HR, Hpre, ⟨HX, HB, Hr⟩, Hk⟩
  iapply (wp_putH st κ c)
  isplitr; · iexact HR
  isplitl [Hpre]; · iexact Hpre
  simp only [Prog.lift, Prog.bind_op, Prog.bind_ret, Prog.pure_eq_ret]
  iintro ⟨HO, Ha⟩
  iapply (wp_load 𝒱₀ (c : Thread nD τ) none Set.univ (Finset.subset_univ _)) $$ [Hr] [-]
  · iexact Hr
  iintro Hr
  iapply (wp_load 𝒱₀ (c : Thread nD τ) none Set.univ (Finset.subset_univ _)) $$ [HX] [-]
  · iexact HX
  iintro HX
  iapply (wp_load 𝒱₀ (c : Thread nD τ) none Set.univ (Finset.subset_univ _)) $$ [HB] [-]
  · iexact HB
  iintro HB
  rw [read_rW]
  iapply Hk
  isplitl [HO]; · iexact HO
  isplitl [Ha]; · iexact Ha
  isplitl [HX]; · iexact HX
  isplitl [HB]; · iexact HB
  iexact Hr

theorem wp_outFirst (c : Dev nD) (s : Stage F) (H : FVec F S8x16x256 .f32) (S : Finset S8x32x16x256.Idx) (m : Vec F S8x32x16x256 .bf16)
    (hY : (rY 0).set ⊆ S) (hX : (rX 0).set ⊆ S) {β : Type} (K : PUnit → Prog (𝔼 F) β) (Q : β → sProp 𝕄) :
    iprop(outPts c s H S m 0 ∗ (outPts c s H S m 1 -∗ WP c (K ⟨⟩) Q))
    ⊢ WP c (outFirst mC mMine wMine mR wR (k0_pay115 s.dA (s.run H 0)) (k0_pay116 (s.xs 0) (s.bs 0)) >>= K) Q := by
  unfold outFirst storeSubelements
  simp only [Prog.lift, Prog.bind_op, Prog.bind_ret, Prog.pure_eq_ret]
  istart
  iintro ⟨⟨HX, HB, HC, HR, HY⟩, Hk⟩
  iapply (wp_load 𝒱₀ (c : Thread nD τ) none Set.univ (Finset.subset_univ _)) $$ [HR] [HX HB HC HY Hk]
  · iexact HR
  iintro HR
  iapply (wp_store 𝒱₀ (c : Thread nD τ) none Set.univ (Finset.subset_univ _)) $$ [HR] [HX HB HC HY Hk]
  · iexact HR
  iintro HR
  iapply (wp_load 𝒱₀ (c : Thread nD τ) none Set.univ (Finset.subset_univ _)) $$ [HC] [HR HX HB HY Hk]
  · iexact HC
  iintro HC
  iapply (wp_load_mine c S _ (rX 0) hX _ _ Q) $$ [HY] [HR HX HB HC Hk]
  · iexact HY
  iintro HY
  iapply (wp_load_mine c S _ (rY 0) hY _ _ Q) $$ [HY] [HR HX HB HC Hk]
  · iexact HY
  iintro HY
  iapply (wp_store_mine c S _ (rY 0) hY _ _ _ _ Q) $$ [HY] [HR HX HB HC Hk]
  · iexact HY
  iintro HY
  iapply Hk
  have e1 := s.run_succ H 0
  have e2 := write_y s H m 0
  change s.run H 1 = _ at e1
  change _ = s.outAt H m 1 at e2
  unfold outPts
  rw [e1, ← e2, write_rW]
  isplitl [HX]; · iexact HX
  isplitl [HB]; · iexact HB
  isplitl [HC]; · iexact HC
  isplitl [HR]; · iexact HR
  iexact HY

/-! ## The closing waits -/

/-- A wait of a device that owes nothing, for a copy. -/
theorem wp_waitD (κ : GSem nD τ sig → ℕ) (c : Dev nD) (k : Role) (hk : k ≠ .other) (hd : duty c k = {false}) (sm : DmaSem sig) (hs : semOf k = .dma sm)
    {s s' : Shape} {t t' : EltTy} (src : Memref sig .tc .vmem s t) (dst : Memref sig .tc .vmem s' t') (hn : amt k = dst.view.dmaCredit)
    {hx hx'} {β : Type} (K : PUnit → Prog (𝔼 F) β) (Q : β → sProp 𝕄) :
    iprop(records st κ ∗ levAts L lv ∗ cred (tallyAt (cell c k) () (amt k)) ∗ Owe c 0 ∗ atPos ER (cell c k) 0 ∅ 0
      ∗ ((Owe c 0 ∗ atPos ER (cell c k) 1 ∅ 0 ∗ pay st c k false) -∗ WP c (K ⟨⟩) Q))
    ⊢ WP c (.op (.waitDma2 sm src dst hx hx') K) Q := by
  refine wp_wait_one st κ c k hk hd _ (fun X => ?_) 0 (mayWait_none c k) K Q
  rw [hn, hs]
  exact wpE_waitDma2_eq 𝒱₀ (c : Thread nD τ) none Set.univ X

def halvesPre (c : Dev nD) : sProp 𝕄 :=
  iprop((cred (tallyAt (cell c .send0) () NO) ∗ cred (tallyAt (cell c .send1) () NO) ∗ cred (tallyAt (cell c .recv0) () NO) ∗ cred (tallyAt (cell c .recv1) () NO))
    ∗ atPos ER (cell c .send0) 0 ∅ 0 ∗ atPos ER (cell c .send1) 0 ∅ 0 ∗ atPos ER (cell c .recv0) 0 ∅ 0 ∗ atPos ER (cell c .recv1) 0 ∅ 0)
def halvesPost (c : Dev nD) : sProp 𝕄 :=
  iprop((mLo c (mineF st c) ∗ mHi c (mineF st c) ∗ tLo c (mineF st (px c)) ∗ tHi c (mineF st (px c)))
    ∗ atPos ER (cell c .send0) 1 ∅ 0 ∗ atPos ER (cell c .send1) 1 ∅ 0 ∗ atPos ER (cell c .recv0) 1 ∅ 0 ∗ atPos ER (cell c .recv1) 1 ∅ 0)

theorem wp_halves (κ : GSem nD τ sig → ℕ) (c : Dev nD) {h₁ h₂ h₃ h₄ h₅ h₆ h₇ h₈} {β : Type} (K : PUnit → Prog (𝔼 F) β) (Q : β → sProp 𝕄) :
    iprop(records st κ ∗ levAts L lv ∗ (Owe c 0 ∗ halvesPre c) ∗ ((Owe c 0 ∗ halvesPost st c) -∗ WP c (K ⟨⟩) Q))
    ⊢ WP c (.op (.waitDma2 os0 (lo8 mTheirs) (lo8 mMine) h₁ h₂) fun _ => .op (.waitDma2 or0 (lo8 mMine) (lo8 mTheirs) h₃ h₄) fun _ =>
        .op (.waitDma2 os1 (hi8 mTheirs) (hi8 mMine) h₅ h₆) fun _ => .op (.waitDma2 or1 (hi8 mMine) (hi8 mTheirs) h₇ h₈) K) Q := by
  unfold halvesPre halvesPost
  istart
  iintro ⟨#HR, #HL, ⟨HO, ⟨Hs0, Hs1, Hr0, Hr1⟩, As0, As1, Ar0, Ar1⟩, Hk⟩
  iapply (wp_waitD st κ c .send0 (by decide) rfl os0 rfl (lo8 mTheirs) (lo8 mMine) rfl)
  isplitr; · iexact HR
  isplitr; · iexact HL
  isplitl [Hs0]; · iexact Hs0
  isplitl [HO]; · iexact HO
  isplitl [As0]; · iexact As0
  iintro ⟨HO, As0, Hs0⟩
  iapply (wp_waitD st κ c .recv0 (by decide) rfl or0 rfl (lo8 mMine) (lo8 mTheirs) rfl)
  isplitr; · iexact HR
  isplitr; · iexact HL
  isplitl [Hr0]; · iexact Hr0
  isplitl [HO]; · iexact HO
  isplitl [Ar0]; · iexact Ar0
  iintro ⟨HO, Ar0, Hr0⟩
  iapply (wp_waitD st κ c .send1 (by decide) rfl os1 rfl (hi8 mTheirs) (hi8 mMine) rfl)
  isplitr; · iexact HR
  isplitr; · iexact HL
  isplitl [Hs1]; · iexact Hs1
  isplitl [HO]; · iexact HO
  isplitl [As1]; · iexact As1
  iintro ⟨HO, As1, Hs1⟩
  iapply (wp_waitD st κ c .recv1 (by decide) rfl or1 rfl (hi8 mMine) (hi8 mTheirs) rfl)
  isplitr; · iexact HR
  isplitr; · iexact HL
  isplitl [Hr1]; · iexact Hr1
  isplitl [HO]; · iexact HO
  isplitl [Ar1]; · iexact Ar1
  iintro ⟨HO, Ar1, Hr1⟩
  unfold pay
  iapply Hk
  isplitl [HO]; · iexact HO
  isplitl [Hs0 Hs1 Hr0 Hr1]
  · isplitl [Hs0]; · iexact Hs0
    isplitl [Hs1]; · iexact Hs1
    isplitl [Hr0]; · iexact Hr0
    iexact Hr1
  isplitl [As0]; · iexact As0
  isplitl [As1]; · iexact As1
  isplitl [Ar0]; · iexact Ar0
  iexact Ar1

/-- The round a first-half device's cells of the state's exchange end at. -/
abbrev endF (c : Dev nD) : ℕ := if First c then 1 else 0

def closePre (c : Dev nD) : sProp 𝕄 :=
  iprop(Owe c 0 ∗ halvesPre c ∗ cred (tallyAt (cell c .ack) () (if First c then 1 else 0)) ∗ hAfter st c
    ∗ atPos ER (cell c .hsend) 0 ∅ 0 ∗ atPos ER (cell c .ack) 0 ∅ 0)
def closePost (c : Dev nD) : sProp 𝕄 :=
  iprop(Owe c 0 ∗ halvesPost st c ∗ hPts c (hOut st c)
    ∗ atPos ER (cell c .hsend) (endF c) ∅ 0 ∗ atPos ER (cell c .ack) (endF c) ∅ 0)

theorem wp_closing (κ : GSem nD τ sig → ℕ) (c : Dev nD) {β : Type} (K : PUnit → Prog (𝔼 F) β) (Q : β → sProp 𝕄) :
    iprop(records st κ ∗ levAts L lv ∗ closePre st c ∗ (closePost st c -∗ WP c (K ⟨⟩) Q))
    ⊢ WP c (closing mMine wMine mTheirs wTheirs mH wH cc0_scratch2 cc0_scratch4 cc0_scratch5 cc0_scratch6 (Scalar.remsi (Scalar.divsi (Dev.word c) 1#32) 2#32) >>= K) Q := by
  unfold closing closePre closePost hAfter endF
  simp only [Prog.lift, Prog.bind_assoc, Prog.bind_op, Prog.bind_ret]
  istart
  iintro ⟨#HR, #HL, ⟨HO, Hhalf, Hack, Hh, Ahs, Aack⟩, Hk⟩
  iapply (wp_halves st κ c)
  isplitr; · iexact HR
  isplitr; · iexact HL
  isplitl [HO Hhalf]
  · isplitl [HO]; · iexact HO
    iexact Hhalf
  iintro ⟨HO, Hhalf⟩
  by_cases hf : First c
  · simp only [if_pos hf, if_pos ((closing_iff c).mpr hf), Prog.bind_op, Prog.bind_ret, Prog.pure_eq_ret]
    iapply (wp_waitD st κ c .hsend (by decide) (duty_hsend c hf) hsS rfl mH mH rfl)
    isplitr; · iexact HR
    isplitr; · iexact HL
    isplitl [Hh]; · iexact Hh
    isplitl [HO]; · iexact HO
    isplitl [Ahs]; · iexact Ahs
    iintro ⟨HO, Ahs, Hh⟩
    iapply (wp_wait_one st κ c .ack (by decide) (duty_ack c hf) (.semWait ackS 1) (wpE_semWait_eq 𝒱₀ (c : Thread nD τ) none Set.univ) 0 (mayWait_none c .ack))
    isplitr; · iexact HR
    isplitr; · iexact HL
    isplitl [Hack]; · iexact Hack
    isplitl [HO]; · iexact HO
    isplitl [Aack]; · iexact Aack
    iintro ⟨HO, Aack, -⟩
    unfold pay
    iapply Hk
    isplitl [HO]; · iexact HO
    isplitl [Hhalf]; · iexact Hhalf
    isplitl [Hh]; · iexact Hh
    isplitl [Ahs]; · iexact Ahs
    iexact Aack
  · simp only [if_neg hf, if_neg (fun h => hf ((closing_iff c).mp h)), Prog.bind_ret, Prog.pure_eq_ret]
    iapply Hk
    isplitl [HO]; · iexact HO
    isplitl [Hhalf]; · iexact Hhalf
    isplitl [Hh]; · iexact Hh
    isplitl [Ahs]; · iexact Ahs
    iexact Aack

/-- A cell whose rounds are done gives its counter back, at zero. -/
theorem close_at (κ : GSem nD τ sig → ℕ) (c : Dev nD) (k : Role) (hk : k ≠ .other) (R : ℕ) (h : R = 1 ∨ duty c k = ∅) :
    iprop(records st κ ∗ atPos ER (cell c k) R ∅ 0) ⊢ iprop(|={Set.univ}=> semVal (cell c k) 0) := by
  have hR : ∀ r ≥ R, (rd (F := F) st).duties (cell c k) r = ∅ := fun r hr => by
    rcases Nat.eq_zero_or_pos r with rfl | hp
    · rcases h with h | h
      · omega
      · rw [duties_eq st c k hk, h]
    · exact duties_later st _ r hp
  iintro ⟨#HR, Hat⟩
  iapply (Rounds.cell_close ER (rd st) (Set.mem_univ (κ (cell c k))) id hR)
  isplitr; · iapply (inv_at st κ c k hk); iexact HR
  iexact Hat

end Cert.KernelIdeal.Scan
-- ==== Proof.KernelIdeal.Run.lean ====
/- The whole body at a symbolic device, from its cells opened to its cells closed. -/
module

public import proofs.«01_k».proof.Proof.KernelIdeal.Body

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → Stage F)

/-- The rights to pay a device's duties, each once. -/
def tokens (c : Dev nD) : sProp 𝕄 :=
  iprop(dutyTok ER (cell (px c) .bar) 0 false ∗ dutyTok ER (cell (py c) .bar) 0 true ∗ dutyTok ER (cell (py c) .ack) 0 false
    ∗ dutyTok ER (cell c .hsend) 0 false ∗ dutyTok ER (cell (py c) .hrecv) 0 false
    ∗ dutyTok ER (cell c .send0) 0 false ∗ dutyTok ER (cell c .send1) 0 false ∗ dutyTok ER (cell (px c) .recv0) 0 false ∗ dutyTok ER (cell (px c) .recv1) 0 false)
/-- What the neighbours owe the device's cells. -/
def credits (c : Dev nD) : sProp 𝕄 :=
  iprop(cred (tallyAt (cell c .bar) () 2) ∗ cred (tallyAt (cell c .hrecv) () (if First c then 0 else NH)) ∗ cred (tallyAt (cell c .ack) () (if First c then 1 else 0))
    ∗ cred (tallyAt (cell c .recv0) () NO) ∗ cred (tallyAt (cell c .recv1) () NO))
/-- A cell of the call, opened. -/
abbrev opened (c : Dev nD) (k : Role) : sProp 𝕄 := iprop(atPos ER (cell c k) 0 ∅ 0 ∗ reached ER (cell c k) 0)
def allOpened (c : Dev nD) : sProp 𝕄 :=
  iprop(opened c .hrecv ∗ opened c .hsend ∗ opened c .ack ∗ opened c .send0 ∗ opened c .send1 ∗ opened c .recv0 ∗ opened c .recv1)
def allClosed (c : Dev nD) : sProp 𝕄 :=
  iprop(semVal (cell c .hrecv) 0 ∗ semVal (cell c .hsend) 0 ∗ semVal (cell c .ack) 0 ∗ semVal (cell c .send0) 0 ∗ semVal (cell c .send1) 0
    ∗ semVal (cell c .recv0) 0 ∗ semVal (cell c .recv1) 0)
def inputs (c : Dev nD) : sProp 𝕄 :=
  iprop(pt c cc0_stg0_0 (st c).x ∗ pt c cc0_stg1_0 (st c).b ∗ pt c cc0_stg2_0 (st c).c ∗ pt c cc0_stg3_0 (st c).a ∗ pt c cc0_stg4_0 (st c).a16)

def runPre (c : Dev nD) : sProp 𝕄 :=
  iprop(Owe c (O₀ c) ∗ tokens c ∗ credits c ∗ atPos ER (cell c .bar) 0 ∅ 0 ∗ allOpened c ∗ inputs st c
    ∗ (∃ f, pt c cc0_stg5_0 f) ∗ (∃ f, pt c cc0_stg6_0 f) ∗ (∃ f, pt c cc0_scratch0 f) ∗ (∃ f, pt c cc0_scratch1 f))
def runPost (c : Dev nD) : sProp 𝕄 :=
  iprop(Owe c 0 ∗ semVal (cell c .bar) 0 ∗ allClosed c ∗ inputs st c
    ∗ pt c cc0_stg5_0 (mineF st c) ∗ pt c cc0_stg6_0 (mineF st (px c)) ∗ (∃ f, pt c cc0_scratch0 f) ∗ (∃ f, pt c cc0_scratch1 f))

theorem end_hrecv (c : Dev nD) : (if First c then 0 else 1) = 1 ∨ duty c .hrecv = ∅ := by
  by_cases h : First c
  · exact .inr (if_pos h)
  · exact .inl (if_neg h)
theorem end_hsend (c : Dev nD) : (if First c then 1 else 0) = 1 ∨ duty c .hsend = ∅ := by
  by_cases h : First c
  · exact .inl (if_pos h)
  · exact .inr (if_neg h)
theorem end_ack (c : Dev nD) : (if First c then 1 else 0) = 1 ∨ duty c .ack = ∅ := end_hsend c

theorem wp_run (κ : GSem nD τ sig → ℕ) (c : Dev nD) {β : Type} (K : PUnit → Prog (𝔼 F) β) (Q : β → sProp 𝕄) :
    iprop(records st κ ∗ levAts L lv ∗ runPre st c ∗ ((|={Set.univ}=> runPost st c) -∗ WP c (K ⟨⟩) Q))
    ⊢ WP c (body mX mB mC mA mA16 mMine wMine mTheirs wTheirs mR wR mH wH cc0_scratch2 cc0_scratch3 cc0_scratch4 cc0_scratch5 cc0_scratch6 >>= K) Q := by
  unfold body runPre tokens credits allOpened inputs
  simp only [Prog.lift, Prog.bind_assoc, Prog.bind_op, Prog.bind_ret]
  refine BIBase.Entails.trans ?_ (Entails.of_eq (wp_deviceId ..).symm)
  istart
  iintro ⟨#HR, #HL, ⟨HO, ⟨Tbx, Tby, Tack, Ths, Thr, Ts0, Ts1, Tr0, Tr1⟩, ⟨Cbar, Chr, Cack, Cr0, Cr1⟩, Abar,
    ⟨⟨Ahr, #Rhr⟩, ⟨Ahs, #Rhs⟩, ⟨Aack, #Rack⟩, ⟨As0, #Rs0⟩, ⟨As1, #Rs1⟩, ⟨Ar0, #Rr0⟩, Ar1, #Rr1⟩, ⟨HX, HB, HC, HA, HA16⟩, ⟨%m, Hm⟩, ⟨%t, Ht⟩, ⟨%g, Hg⟩, %h, Hh⟩, Hk⟩
  ihave Ht2 := ((split_theirs c t).1) $$ Ht
  icases Ht2 with ⟨HtLo, HtHi⟩
  ihave Hm2 := ((split_mine c m).1) $$ Hm
  icases Hm2 with ⟨HmLo, HmHi⟩
  iapply (wp_entry st κ c (st c))
  isplitr; · iexact HR
  isplitr; · iexact HL
  isplitl [HO Tbx Tby HtLo HtHi Hh Cbar Abar]
  · unfold shakePre
    isplitl [HO]; · iexact HO
    isplitl [Tbx]; · iexact Tbx
    isplitl [Tby]; · iexact Tby
    isplitl [HtLo]; · iexists t; iexact HtLo
    isplitl [HtHi]; · iexists t; iexact HtHi
    isplitl [Hh]; · iexists h; simp only [hPts_eq]; iexact Hh
    isplitr; · iexact Rr0
    isplitr; · iexact Rr1
    isplitr; · iexact Rhr
    isplitr; · iexact Rack
    isplitl [Cbar]; · iexact Cbar
    iexact Abar
  isplitl [HX HA HA16]
  · unfold entryRest
    isplitl [HX]; · iexact HX
    isplitl [HA]; · iexact HA
    iexact HA16
  unfold entryRest
  iintro ⟨HO, Abar, HbX, HbY, Hh, HX, HA, HA16⟩
  dsimp only
  iapply (wp_load 𝒱₀ (c : Thread nD τ) none Set.univ (Finset.subset_univ _)) $$ [HB] [-]
  · iexact HB
  iintro HB
  iapply (wp_load 𝒱₀ (c : Thread nD τ) none Set.univ (Finset.subset_univ _)) $$ [Hg] [-]
  · iexact Hg
  iintro Hg
  iapply (wp_store 𝒱₀ (c : Thread nD τ) none Set.univ (Finset.subset_univ _)) $$ [Hg] [-]
  · iexact Hg
  iintro Hg
  rw [write_rW]
  iapply (wp_localLoop c (st c) _ Q 15 0 _)
  isplitl [HX HB Hg]
  · isplitl [HX]; · iexact HX
    isplitl [HB]; · iexact HB
    iexact Hg
  iintro ⟨HX, HB, Hg⟩
  iapply (wp_receive st κ c (st c))
  isplitr; · iexact HR
  isplitr; · iexact HL
  isplitl [HO Hh HbY Chr Ahr Tack]
  · unfold recvPre
    isplitl [HO]; · iexact HO
    isplitl [Hh]; · iexact Hh
    isplitl [HbY]; · iexact HbY
    isplitl [Chr]; · iexact Chr
    isplitl [Ahr]; · iexact Ahr
    iexact Tack
  isplitl [Hg]; · iexact Hg
  unfold recvPost
  iintro ⟨⟨HO, Hh, Hlent, Ahr⟩, Hg⟩
  dsimp only
  have e1 := (st c).carry_succ (hIn st c) 0
  change (st c).carry (hIn st c) 1 = k0_pay32 (hIn st c) _ _ at e1
  rw [← e1]
  iapply (wp_carryLoop c (st c) (hIn st c) _ Q 31 1 _)
  isplitl [Hg]; · iexact Hg
  iintro Hg
  simp only [hPts_eq]
  iapply (wp_load 𝒱₀ (c : Thread nD τ) none Set.univ (Finset.subset_univ _)) $$ [Hh] [-]
  · iexact Hh
  iintro Hh
  iapply (wp_store 𝒱₀ (c : Thread nD τ) none Set.univ (Finset.subset_univ _)) $$ [Hh] [-]
  · iexact Hh
  iintro Hh
  rw [write_rH]
  iapply (wp_send st κ c (st c) (hIn st c))
  isplitr; · iexact HR
  isplitl [HO Hh Hlent Ths Thr]
  · unfold sendPre
    isplitl [HO]; · iexact HO
    isplitl [Hh]; · simp only [hPts_eq]; iexact Hh
    isplitl [Hlent]; · iexact Hlent
    isplitl [Ths]; · iexact Ths
    isplitr; · iexact Rhs
    iexact Thr
  isplitl [HX HB Hg]
  · isplitl [HX]; · iexact HX
    isplitl [HB]; · iexact HB
    iexact Hg
  iintro ⟨HO, Hh, HX, HB, Hg⟩
  dsimp only
  iapply (wp_outFirst c (st c) (hIn st c) loS m (in_lo 0 (by decide)).1 (in_lo 0 (by decide)).2)
  isplitl [HX HB HC Hg HmLo]
  · isplitl [HX]; · iexact HX
    isplitl [HB]; · iexact HB
    isplitl [HC]; · iexact HC
    isplitl [Hg]; · iexact Hg
    rw [← lo_start]; iexact HmLo
  iintro Hout
  iapply (wp_outLoop c (st c) (hIn st c) loS m _ Q 7 1 _ fun t _ h => in_lo t (by omega))
  isplitl [Hout]; · iexact Hout
  iintro ⟨HX, HB, HC, Hg, HmLo⟩
  simp only [Nat.reduceAdd, lo_end]
  unfold barPayX
  icases HbX with ⟨⟨%t0, HtLo⟩, ⟨%t1, HtHi⟩, #Rr0', #Rr1'⟩
  iapply (wp_sendLo st κ c t0 _ (dev5_eq c) (owe1 c))
  isplitr; · iexact HR
  isplitl [HmLo]; · iexact HmLo
  isplitl [HtLo]; · iexact HtLo
  isplitl [HO]; · iexact HO
  isplitl [Ts0]; · iexact Ts0
  isplitr; · iexact Rs0
  isplitl [Tr0]; · iexact Tr0
  isplitr; · iexact Rr0'
  iintro ⟨Cs0, HO⟩
  iapply (wp_outLoop c (st c) (hIn st c) hiS m _ Q 8 8 _ fun t h _ => in_hi t h)
  isplitl [HX HB HC Hg HmHi]
  · isplitl [HX]; · iexact HX
    isplitl [HB]; · iexact HB
    isplitl [HC]; · iexact HC
    isplitl [Hg]; · iexact Hg
    rw [← hi_start]; iexact HmHi
  iintro ⟨HX, HB, HC, Hg, HmHi⟩
  simp only [Nat.reduceAdd, hi_end]
  iapply (wp_sendHi st κ c t1 _ (dev6_eq c) 0)
  isplitr; · iexact HR
  isplitl [HmHi]; · iexact HmHi
  isplitl [HtHi]; · iexact HtHi
  isplitl [HO]; · rw [zero_add]; iexact HO
  isplitl [Ts1]; · iexact Ts1
  isplitr; · iexact Rs1
  isplitl [Tr1]; · iexact Tr1
  isplitr; · iexact Rr1'
  iintro ⟨Cs1, HO⟩
  iapply (wp_closing st κ c)
  isplitr; · iexact HR
  isplitr; · iexact HL
  isplitl [HO Cs0 Cs1 Cr0 Cr1 As0 As1 Ar0 Ar1 Cack Hh Ahs Aack]
  · unfold closePre halvesPre
    isplitl [HO]; · iexact HO
    isplitl [Cs0 Cs1 Cr0 Cr1 As0 As1 Ar0 Ar1]
    · isplitl [Cs0 Cs1 Cr0 Cr1]
      · isplitl [Cs0]; · iexact Cs0
        isplitl [Cs1]; · iexact Cs1
        isplitl [Cr0]; · iexact Cr0
        iexact Cr1
      isplitl [As0]; · iexact As0
      isplitl [As1]; · iexact As1
      isplitl [Ar0]; · iexact Ar0
      iexact Ar1
    isplitl [Cack]; · iexact Cack
    isplitl [Hh]; · iexact Hh
    isplitl [Ahs]; · iexact Ahs
    iexact Aack
  unfold closePost halvesPost endF
  iintro ⟨HO, ⟨⟨HmLo, HmHi, HtLo, HtHi⟩, As0, As1, Ar0, Ar1⟩, Hh, Ahs, Aack⟩
  iapply Hk
  imod (close_at st κ c .bar (by decide) 1 (.inl rfl)) $$ [Abar] with Vbar
  · isplitr; · iexact HR
    iexact Abar
  imod (close_at st κ c .hrecv (by decide) _ (end_hrecv c)) $$ [Ahr] with Vhr
  · isplitr; · iexact HR
    iexact Ahr
  imod (close_at st κ c .hsend (by decide) _ (end_hsend c)) $$ [Ahs] with Vhs
  · isplitr; · iexact HR
    iexact Ahs
  imod (close_at st κ c .ack (by decide) _ (end_ack c)) $$ [Aack] with Vack
  · isplitr; · iexact HR
    iexact Aack
  imod (close_at st κ c .send0 (by decide) 1 (.inl rfl)) $$ [As0] with Vs0
  · isplitr; · iexact HR
    iexact As0
  imod (close_at st κ c .send1 (by decide) 1 (.inl rfl)) $$ [As1] with Vs1
  · isplitr; · iexact HR
    iexact As1
  imod (close_at st κ c .recv0 (by decide) 1 (.inl rfl)) $$ [Ar0] with Vr0
  · isplitr; · iexact HR
    iexact Ar0
  imod (close_at st κ c .recv1 (by decide) 1 (.inl rfl)) $$ [Ar1] with Vr1
  · isplitr; · iexact HR
    iexact Ar1
  imodintro
  unfold runPost allClosed inputs
  isplitl [HO]; · iexact HO
  isplitl [Vbar]; · iexact Vbar
  isplitl [Vhr Vhs Vack Vs0 Vs1 Vr0 Vr1]
  · isplitl [Vhr]; · iexact Vhr
    isplitl [Vhs]; · iexact Vhs
    isplitl [Vack]; · iexact Vack
    isplitl [Vs0]; · iexact Vs0
    isplitl [Vs1]; · iexact Vs1
    isplitl [Vr0]; · iexact Vr0
    iexact Vr1
  isplitl [HX HB HC HA HA16]
  · isplitl [HX]; · iexact HX
    isplitl [HB]; · iexact HB
    isplitl [HC]; · iexact HC
    isplitl [HA]; · iexact HA
    iexact HA16
  isplitl [HmLo HmHi]
  · iapply ((split_mine c (mineF st c)).2)
    isplitl [HmLo]; · iexact HmLo
    iexact HmHi
  isplitl [HtLo HtHi]
  · iapply ((split_theirs c (mineF st (px c))).2)
    isplitl [HtLo]; · iexact HtLo
    iexact HtHi
  isplitl [Hg]; · iexists _; iexact Hg
  iexists _; simp only [hPts_eq]; iexact Hh

end Cert.KernelIdeal.Scan
-- ==== Proof.KernelIdeal.Region.lean ====
/- The call as a region of @main: entered from the host's operands in hand and the cells' records from the
   launch, left with the two outputs in their arrays. -/
module

public import proofs.«01_k».proof.Proof.KernelIdeal.Run
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The operands -/

/-- A device's operands of the call, as the host leaves them. -/
def stg (c : Dev nD) : Stage F where
  x := V1 m c main_v10
  b := V1 m c main_v12
  c := V1 m c main_v14
  a := V1 m c main_v25
  a16 := V1 m c main_v30

/-- What the call leaves in its two result arrays. -/
def outs : Outs (F := F) := fun _ r c =>
  if h : r = main_v31_0 then h ▸ (mineF (stg m) c : Buf (Elt F) ((c : Thread nD τ).loc main_v31_0))
  else if h : r = main_v31_1 then h ▸ (mineF (stg m) (px c) : Buf (Elt F) ((c : Thread nD τ).loc main_v31_1))
  else m ((c : Thread nD τ).loc r)
theorem outs_mine (n : ℕ) (c : Dev nD) : outs m n main_v31_0 c = mineF (stg m) c := by
  unfold outs; rw [dif_pos rfl]
theorem outs_theirs (n : ℕ) (c : Dev nD) : outs m n main_v31_1 c = mineF (stg m) (px c) := by
  unfold outs; rw [dif_neg (by decide), dif_pos rfl]

/-! ## The region's proof data -/

/-- The call's own semaphores. -/
def osem0 : Fin 7 → SemLoc sig := fun i => semOf (roleS i)

/-- A device's share of the launch: its barrier position, its rights to open its cells, the rights to pay its duties. -/
def linear (c : Dev nD) : sProp 𝕄 :=
  iprop(atPos ER (cell c .bar) 0 ∅ 0 ∗ (bigSep Finset.univ fun i : Fin 7 => openTok ER (cell c (roleS i))) ∗ tokens c)

/-- What the launch keeps for the call, and what that becomes once the cells are open. -/
def Tk (c : Dev nD) : sProp 𝕄 := iprop((∃ κ, records (stg m) κ) ∗ linear c ∗ credits c)
def Xk (c : Dev nD) : sProp 𝕄 := iprop((∃ κ, records (stg m) κ) ∗ levAts L lv ∗ atPos ER (cell c .bar) 0 ∅ 0 ∗ allOpened c ∗ tokens c ∗ credits c)
def Yk (c : Dev nD) : sProp 𝕄 := semVal (cell c .bar) 0

/-- The two scratch buffers, at contents not chosen. -/
def scratch (c : Dev nD) : sProp 𝕄 := iprop((∃ f, pt c cc0_scratch0 f) ∗ (∃ f, pt c cc0_scratch1 f))

def dat0 (c : Dev nD) : Dat τ (Elt F) Unit ℕ UU ℕ cfg0 c where
  A w := V1 m c (Proc.devRef .tc (Pipeline.arrRef spec0 w))
  after w _ := match w with
    | ⟨0, _⟩ => (stg m c).x
    | ⟨1, _⟩ => (stg m c).b
    | ⟨2, _⟩ => (stg m c).c
    | ⟨3, _⟩ => (stg m c).a
    | ⟨4, _⟩ => (stg m c).a16
    | ⟨5, _⟩ => mineF (stg m) c
    | ⟨6, _⟩ => mineF (stg m) (px c)
  Φ t := if t.val = 0 then iprop(Xk m c ∗ scratch c ∗ ∃ r, prngReg c r) else iprop((Yk c ∗ allClosed c) ∗ scratch c ∗ ∃ r, prngReg c r)
  q _ := fullShare
  owed t := if t.val = 0 then O₀ c else 0

def pdats (_ : Fin 1) (c : Dev nD) : Dat τ (Elt F) Unit ℕ UU ℕ cfg0 c := dat0 m c

theorem owed_first (c : Dev nD) : (dat0 (F := F) m c).owed t0_0.castSucc = O₀ c := by
  show (if (t0_0.castSucc : Fin (cfg0.N + 1)).val = 0 then O₀ c else 0) = O₀ c; exact if_pos rfl
theorem owed_zero (c : Dev nD) : (dat0 (F := F) m c).owed 0 = O₀ c := by
  show (if (0 : Fin (cfg0.N + 1)).val = 0 then O₀ c else 0) = O₀ c; exact if_pos rfl
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]

/-! ## The windows' blocks are their whole arrays -/

theorem blk0 (t : Fin cfg0.N) (X : Vec F S8x32x16x256 .bf16) : ((cfg0.win 0).blk t).view.read (Elt F) X = X := by
  funext i
  rw [View.read_apply]
  refine congrArg X (funext fun a => Fin.ext ?_)
  show 0 * _ + 1 * (i a).val = (i a).val
  omega
theorem blk1 (t : Fin cfg0.N) (X : Vec F S8x32x16x16 .bf16) : ((cfg0.win 1).blk t).view.read (Elt F) X = X := by
  funext i
  rw [View.read_apply]
  refine congrArg X (funext fun a => Fin.ext ?_)
  show 0 * _ + 1 * (i a).val = (i a).val
  omega
theorem blk2 (t : Fin cfg0.N) (X : Vec F S8x32x16x16 .bf16) : ((cfg0.win 2).blk t).view.read (Elt F) X = X := blk1 t X
theorem blk3 (t : Fin cfg0.N) (X : Vec F S16x256 .bf16) : ((cfg0.win 3).blk t).view.read (Elt F) X = X := by
  funext i
  rw [View.read_apply]
  refine congrArg X (funext fun a => Fin.ext ?_)
  show 0 * _ + 1 * (i a).val = (i a).val
  omega
theorem blk4 (t : Fin cfg0.N) (X : Vec F S16x256 .bf16) : ((cfg0.win 4).blk t).view.read (Elt F) X = X := blk3 t X
theorem blk5 (t : Fin cfg0.N) (X : Vec F S8x32x16x256 .bf16) : ((cfg0.win 5).blk t).view.read (Elt F) X = X := blk0 t X
theorem blk6 (t : Fin cfg0.N) (X : Vec F S8x32x16x256 .bf16) : ((cfg0.win 6).blk t).view.read (Elt F) X = X := blk0 t X

theorem cover5 (i : S8x32x16x256.Idx) : ∃ t : Fin cfg0.N, (cfg0.win 5).flush t = true ∧ i ∈ ((cfg0.win 5).blk t).view.set := by
  refine ⟨t0_0, flush0_5 _, ?_⟩
  show i ∈ ((View.whole main_v31_0).slice (win0_5.rect t0_0)).set
  rw [View.set_slice_whole, Rect.mem_set_unit]
  intro a
  show 0 * _ ≤ (i a).val ∧ (i a).val < 0 * _ + S8x32x16x256.size a
  have := (i a).isLt
  omega
theorem cover6 (i : S8x32x16x256.Idx) : ∃ t : Fin cfg0.N, (cfg0.win 6).flush t = true ∧ i ∈ ((cfg0.win 6).blk t).view.set := by
  refine ⟨t0_0, flush0_6 _, ?_⟩
  show i ∈ ((View.whole main_v31_1).slice (win0_6.rect t0_0)).set
  rw [View.set_slice_whole, Rect.mem_set_unit]
  intro a
  show 0 * _ ≤ (i a).val ∧ (i a).val < 0 * _ + S8x32x16x256.size a
  have := (i a).isLt
  omega

theorem found0 (c : Dev nD) (d) : (dat0 m c).before (0 : Fin 7) t0_0 d = (stg m c).x := by
  unfold Dat.before; rw [if_pos (fetch0_0 t0_0)]; exact blk0 t0_0 (stg m c).x
theorem found1 (c : Dev nD) (d) : (dat0 m c).before (1 : Fin 7) t0_0 d = (stg m c).b := by
  unfold Dat.before; rw [if_pos (fetch0_1 t0_0)]; exact blk1 t0_0 (stg m c).b
theorem found2 (c : Dev nD) (d) : (dat0 m c).before (2 : Fin 7) t0_0 d = (stg m c).c := by
  unfold Dat.before; rw [if_pos (fetch0_2 t0_0)]; exact blk2 t0_0 (stg m c).c
theorem found3 (c : Dev nD) (d) : (dat0 m c).before (3 : Fin 7) t0_0 d = (stg m c).a := by
  unfold Dat.before; rw [if_pos (fetch0_3 t0_0)]; exact blk3 t0_0 (stg m c).a
theorem found4 (c : Dev nD) (d) : (dat0 m c).before (4 : Fin 7) t0_0 d = (stg m c).a16 := by
  unfold Dat.before; rw [if_pos (fetch0_4 t0_0)]; exact blk4 t0_0 (stg m c).a16

/-- The arrays after the call: the operands as they were, the two outputs at their final contents. -/
theorem arr_after (c : Dev nD) (w : Fin 7) : (dat0 m c).arrAt w cfg0.N = V2 m (outs m) c (Proc.devRef .tc (Pipeline.arrRef spec0 w)) := by
  have keep (w : Fin 7) (hin : (cfg0.win w).isOut = false) (h : Pipeline.arrRef spec0 w ∉ ([main_v31_0, main_v31_1] : List (Ref sig .tc))) :
      (dat0 m c).arrAt w cfg0.N = V2 m (outs m) c (Proc.devRef .tc (Pipeline.arrRef spec0 w)) :=
    ((dat0 m c).arrAt_in w hin _).trans (V2_of m (outs m) c _ h).symm
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact keep 4 rfl (by decide)
  | ⟨5, _⟩ =>
    refine ((dat0 m c).arrAt_eq_of_cover 5 (mineF (stg m) c) (fun t _ => ?_) cover5).trans ?_
    · exact (blk5 t (mineF (stg m) c)).symm
    · show _ = V2 m (outs m) c (Proc.devRef .tc main_v31_0)
      rw [V2, Function.update_of_ne (StableHlo.devRef_ne_of_ne (by decide)), Function.update_self, outs_mine]
  | ⟨6, _⟩ =>
    refine ((dat0 m c).arrAt_eq_of_cover 6 (mineF (stg m) (px c)) (fun t _ => ?_) cover6).trans ?_
    · exact (blk6 t (mineF (stg m) (px c))).symm
    · show _ = V2 m (outs m) c (Proc.devRef .tc main_v31_1)
      rw [V2, Function.update_self, outs_theirs]

/-! ## The body's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem owesAt_intro (c : Dev nD) (dat : Dat τ (Elt F) Unit ℕ UU ℕ cfg0 c) (t : Fin (cfg0.N + 1)) (O : CellTallies nD τ sig Unit) (h0 : dat.owed t = O)
    (hr : dat.recorded t = Set.univ) : (Owe c O : sProp 𝕄) ⊢ dat.owesAt () t := by
  unfold Dat.owesAt Pipeline.owesWithin Dat.bound; rw [h0, hr]
  iintro ⟨%W, HO⟩; iexists W; isplitr; · ipureintro; exact fun _ _ => Or.inl trivial
  iexact HO
omit [FloatOps F] in
theorem owesAt_elim (c : Dev nD) (dat : Dat τ (Elt F) Unit ℕ UU ℕ cfg0 c) (t : Fin (cfg0.N + 1)) (O : CellTallies nD τ sig Unit) (h0 : dat.owed t = O) :
    dat.owesAt () t ⊢ (Owe c O : sProp 𝕄) := by
  unfold Dat.owesAt Pipeline.owesWithin; rw [h0]
  iintro ⟨%W, -, HO⟩; iexists W; iexact HO

/-- A buffer at contents not named, and one at contents `X`. -/
abbrev stgAt (c : Dev nD) (b : Ref sig .tc) (X : b.ty.Contents (Elt F)) : sProp 𝕄 := owns (c : Thread nD τ) (Memref.whole b) fullShare X
omit [FloatOps F] in
theorem stgAt_elim (c : Dev nD) (b : Ref sig .tc) (X : b.ty.Contents (Elt F)) : (stgAt c b X : sProp 𝕄) ⊢ pt c b X := by
  unfold stgAt; rw [owns_whole_eq]
  iintro ⟨%f, %h, H⟩; subst h; iexact H
omit [FloatOps F] in
theorem stgAt_intro (c : Dev nD) (b : Ref sig .tc) (X : b.ty.Contents (Elt F)) : (pt c b X : sProp 𝕄) ⊢ stgAt c b X := by
  unfold stgAt; rw [owns_whole_eq]
  iintro H; iexists X; isplitr; · ipureintro; rfl
  iexact H

/-- What the body is called with, and what it returns. -/
def callPre (c : Dev nD) : sProp 𝕄 :=
  iprop((Xk m c ∗ scratch c ∗ ∃ r, prngReg c r) ∗ (dat0 m c).owesAt () t0_0.castSucc
    ∗ (∃ d, stgAt c cc0_stg0_0 ((dat0 m c).before (0 : Fin 7) t0_0 d)) ∗ (∃ d, stgAt c cc0_stg1_0 ((dat0 m c).before (1 : Fin 7) t0_0 d))
    ∗ (∃ d, stgAt c cc0_stg2_0 ((dat0 m c).before (2 : Fin 7) t0_0 d)) ∗ (∃ d, stgAt c cc0_stg3_0 ((dat0 m c).before (3 : Fin 7) t0_0 d))
    ∗ (∃ d, stgAt c cc0_stg4_0 ((dat0 m c).before (4 : Fin 7) t0_0 d)) ∗ (∃ d, stgAt c cc0_stg5_0 ((dat0 m c).before (5 : Fin 7) t0_0 d))
    ∗ (∃ d, stgAt c cc0_stg6_0 ((dat0 m c).before (6 : Fin 7) t0_0 d)))
def callPost (c : Dev nD) : sProp 𝕄 :=
  iprop(((Yk c ∗ allClosed c) ∗ scratch c ∗ ∃ r, prngReg c r) ∗ (dat0 m c).owesAt () t0_0.succ
    ∗ stgAt c cc0_stg0_0 (stg m c).x ∗ stgAt c cc0_stg1_0 (stg m c).b ∗ stgAt c cc0_stg2_0 (stg m c).c ∗ stgAt c cc0_stg3_0 (stg m c).a
    ∗ stgAt c cc0_stg4_0 (stg m c).a16 ∗ stgAt c cc0_stg5_0 (mineF (stg m) c) ∗ stgAt c cc0_stg6_0 (mineF (stg m) (px c)))

theorem call_run (c : Dev nD) : callPre m c ⊢ WP c (bodyAt0 (F := F) t0_0) (fun _ => callPost m c) := by
  show _ ⊢ WP c (cc0_body mX _ mB _ mC _ mA _ mA16 _ mMine wMine mTheirs wTheirs mR wR mH wH cc0_scratch2 cc0_scratch3 cc0_scratch4 cc0_scratch5 cc0_scratch6) _
  rw [body_eq, ← Prog.bind_pure (body _ _ _ _ _ _ _ _ _ _ _ _ _ _ _ _ _ _)]
  unfold callPre Xk scratch
  iintro ⟨⟨⟨⟨%κ, #HR⟩, #HL, Hbar, Hop, Htok, Hcr⟩, ⟨Hs0, Hs1⟩, Hreg⟩, HO, ⟨%d0, H0⟩, ⟨%d1, H1⟩, ⟨%d2, H2⟩, ⟨%d3, H3⟩, ⟨%d4, H4⟩, ⟨%d5, H5⟩, %d6, H6⟩
  iapply (wp_run (stg m) κ c)
  isplitr; · iexact HR
  isplitr; · iexact HL
  isplitr [Hreg]
  · unfold runPre inputs
    isplitl [HO]; · iapply (owesAt_elim c (dat0 m c) _ _ (owed_first m c)); iexact HO
    isplitl [Htok]; · iexact Htok
    isplitl [Hcr]; · iexact Hcr
    isplitl [Hbar]; · iexact Hbar
    isplitl [Hop]; · iexact Hop
    isplitl [H0 H1 H2 H3 H4]
    · isplitl [H0]; · simp only [found0]; iapply (stgAt_elim c cc0_stg0_0); iexact H0
      isplitl [H1]; · simp only [found1]; iapply (stgAt_elim c cc0_stg1_0); iexact H1
      isplitl [H2]; · simp only [found2]; iapply (stgAt_elim c cc0_stg2_0); iexact H2
      isplitl [H3]; · simp only [found3]; iapply (stgAt_elim c cc0_stg3_0); iexact H3
      simp only [found4]; iapply (stgAt_elim c cc0_stg4_0); iexact H4
    isplitl [H5]; · iexists _; iapply (stgAt_elim c cc0_stg5_0); iexact H5
    isplitl [H6]; · iexists _; iapply (stgAt_elim c cc0_stg6_0); iexact H6
    isplitl [Hs0]; · iexact Hs0
    iexact Hs1
  iintro H
  iapply (Entails.of_eq (wp_ret (Fr := frame) (wpE := wpE (defs₀ (F := F)) 𝒱₀ (c : Thread nD τ) none) ..).symm)
  imod H with H
  imodintro
  unfold runPost inputs callPost Yk scratch
  icases H with ⟨HO, Hb, Hcl, ⟨H0, H1, H2, H3, H4⟩, H5, H6, Hs0, Hs1⟩
  isplitl [Hb Hcl Hs0 Hs1 Hreg]
  · isplitl [Hb Hcl]; · isplitl [Hb] <;> iassumption
    isplitl [Hs0 Hs1]; · isplitl [Hs0] <;> iassumption
    iexact Hreg
  isplitl [HO]; · iapply (owesAt_intro c (dat0 m c) _ _ (owed_last m c) rfl); iexact HO
  isplitl [H0]; · iapply (stgAt_intro c cc0_stg0_0); iexact H0
  isplitl [H1]; · iapply (stgAt_intro c cc0_stg1_0); iexact H1
  isplitl [H2]; · iapply (stgAt_intro c cc0_stg2_0); iexact H2
  isplitl [H3]; · iapply (stgAt_intro c cc0_stg3_0); iexact H3
  isplitl [H4]; · iapply (stgAt_intro c cc0_stg4_0); iexact H4
  isplitl [H5]; · iapply (stgAt_intro c cc0_stg5_0); iexact H5
  iapply (stgAt_intro c cc0_stg6_0); iexact H6

set_option maxHeartbeats 2000000 in
theorem body_obligation (c : Dev nD) : BodyObligation (dat0 (F := F) m c) defs₀ 𝒱₀ () Set.univ := fun t => by
  rw [fin_N0 t]
  rw [bigSep_W0, bigSep_W0]
  exact call_run m c

end Cert.KernelIdeal.Scan
-- ==== Proof.KernelIdeal.Launch.lean ====
/- The call's segment record and the launch: every cell's invariant allocated at launch, the call's own cells
   dormant until it opens them; the run of @main with its final values and every counter at zero. -/
module

public import proofs.«01_k».proof.Proof.KernelIdeal.Region

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The call's segment -/

theorem bigSep_7 {M : Type} [URA M] (Φ : Fin 7 → sProp M) : bigSep Finset.univ Φ = iprop(Φ 0 ∗ Φ 1 ∗ Φ 2 ∗ Φ 3 ∗ Φ 4 ∗ Φ 5 ∗ Φ 6) :=
  bigSep_W0 Φ

omit [FloatOps F] in
theorem ownSems_eq (c : Dev nD) : (Pipeline.ownSems0 osem0 c : sProp 𝕄) = allClosed c := by
  unfold Pipeline.ownSems0; rw [bigSep_7]; rfl

theorem open_one (κ : GSem nD τ sig → ℕ) (c : Dev nD) (k : Role) (hk : k ≠ .other) :
    iprop(records (stg m) κ ∗ openTok ER (cell c k) ∗ semVal (cell c k) 0) ⊢ (|={Set.univ}=> opened c k : sProp 𝕄) := by
  iintro ⟨#HR, Ht, Hs⟩
  iapply (Rounds.cell_open ER (rd (stg m)) (g := cell c k) (Set.mem_univ (κ (cell c k))))
  isplitr; · iapply (inv_at (stg m) κ c k hk); iexact HR
  isplitl [Ht] <;> iassumption

theorem hopen0 (c : Dev nD) : iprop(Tk m c ∗ Pipeline.ownSems0 osem0 c ∗ levAts L lv) ⊢ (|={Set.univ}=> Xk m c : sProp 𝕄) := by
  rw [ownSems_eq]
  unfold Tk Xk linear allClosed allOpened
  rw [bigSep_7]
  iintro ⟨⟨⟨%κ, #HR⟩, ⟨Hbar, ⟨T0, T1, T2, T3, T4, T5, T6⟩, Htok⟩, Hcr⟩, ⟨S0, S1, S2, S3, S4, S5, S6⟩, #HL⟩
  imod (open_one m κ c .hrecv (by decide)) $$ [T0 S0] with O0
  · isplitr; · iexact HR
    isplitl [T0]; · iexact T0
    iexact S0
  imod (open_one m κ c .hsend (by decide)) $$ [T1 S1] with O1
  · isplitr; · iexact HR
    isplitl [T1]; · iexact T1
    iexact S1
  imod (open_one m κ c .ack (by decide)) $$ [T2 S2] with O2
  · isplitr; · iexact HR
    isplitl [T2]; · iexact T2
    iexact S2
  imod (open_one m κ c .send0 (by decide)) $$ [T3 S3] with O3
  · isplitr; · iexact HR
    isplitl [T3]; · iexact T3
    iexact S3
  imod (open_one m κ c .send1 (by decide)) $$ [T4 S4] with O4
  · isplitr; · iexact HR
    isplitl [T4]; · iexact T4
    iexact S4
  imod (open_one m κ c .recv0 (by decide)) $$ [T5 S5] with O5
  · isplitr; · iexact HR
    isplitl [T5]; · iexact T5
    iexact S5
  imod (open_one m κ c .recv1 (by decide)) $$ [T6 S6] with O6
  · isplitr; · iexact HR
    isplitl [T6]; · iexact T6
    iexact S6
  imodintro
  isplitr; · iexists κ; iexact HR
  isplitr; · iexact HL
  isplitl [Hbar]; · iexact Hbar
  isplitl [O0 O1 O2 O3 O4 O5 O6]
  · isplitl [O0]; · iexact O0
    isplitl [O1]; · iexact O1
    isplitl [O2]; · iexact O2
    isplitl [O3]; · iexact O3
    isplitl [O4]; · iexact O4
    isplitl [O5]; · iexact O5
    iexact O6
  isplitl [Htok] <;> iassumption

/-- The unscoped buffers that are no array of the call. -/
def others : Finset (DevRef τ sig) := Pipeline.ucRefs τ sig \ Pipeline.arrRefs (τ := τ) spec0

theorem scopedRest_eq (c : Dev nD) : (Pipeline.scopedRest (Ix := Unit) (Name := ℕ) (U := UU) (Lvl := ℕ) (Val := Elt F) (Pipeline.pin (pcfgs (F := F)) adm 0).spec c : sProp 𝕄) = scratch c :=
  scopedRest0_eq c

theorem hin0 (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch c ∗ ∃ r, prngReg c r) from rfl]
  rw [scopedRest_eq]
  iintro ⟨Hs, Hp, -, HX⟩
  isplitl [HX]; · iexact HX
  isplitl [Hs]; · iexact Hs
  iexact Hp

theorem phi_last (c : Dev nD) : (pdats m 0 c).Φ (Fin.last (Pipeline.pin (pcfgs (F := F)) adm 0).N)
    = iprop((Yk c ∗ allClosed c) ∗ scratch c ∗ ∃ r, prngReg c r) := by
  show (if (Fin.last cfg0.N).val = 0 then iprop(Xk m c ∗ scratch c ∗ ∃ r, prngReg c r) else iprop((Yk c ∗ allClosed c) ∗ scratch c ∗ ∃ r, prngReg c r)) = _
  rw [Fin.val_last, if_neg (by rw [show cfg0.N = 1 from N_0]; decide)]

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem0 c ∗ Yk c) := by
  rw [phi_last, ownSems_eq, scopedRest_eq]
  unfold StableHlo.held
  rw [BI.bigSep_empty]
  iintro ⟨⟨Hb, Hcl⟩, Hs, Hp⟩
  isplitl [Hs]; · iexact Hs
  isplitl [Hp]; · iexact Hp
  isplitr; · iempintro
  isplitl [Hcl] <;> iassumption

theorem rest0 (c : Dev nD) : ∀ b ∈ others \ ∅, V2 m (outs m) c b = V1 m c b := fun b hb => by
  rw [Finset.sdiff_empty] at hb
  obtain ⟨hu, ha⟩ := Finset.mem_sdiff.mp hb
  have e5 : b ≠ Proc.devRef .tc main_v31_0 := fun e => ha (by rw [e]; decide)
  have e6 : b ≠ Proc.devRef .tc main_v31_1 := fun e => ha (by rw [e]; decide)
  rw [V2, Function.update_of_ne e6, Function.update_of_ne e5]

theorem above_O (c : Dev nD) : Above 0 (O₀ c) :=
  (((above_oweT c).mono (by decide)).add (.tally _ .bar (by decide) _ (by decide))).add (.tally _ .bar (by decide) _ (by decide))

theorem cut0 (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O c g i h
  · exact absurd h (Nat.lt_irrefl 0)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ others (Finset.empty_subset _) launch0.toP rfl (fun c => (body_obligation m c).loose)
    (fun _ => 0) O₀ (fun c => (owed_zero m c).trans (zero_add _).symm) (owed_last m) (fun _ => rfl)
    (fun c w => by unfold Dat.share; split <;> rfl)
    (fun c => V1 m c) (fun c => V2 m (outs m) c) (rest0 m)
    (Tk m) Yk (Xk m) Yk (hopen0 m) (hin0 m) (hout0 m)
    (fun c => by iintro H; imodintro; iexact H)
    (fun _ => 0)
    ⟨fun c w s => by rw [L_tc]; exact Finset.mem_singleton_self _, fun _ w s => (by decide : ∀ (w : Fin 7) (s : Fin (win0 w).nbuf), lev (role (.dma ((win0 w).sem s))) ≤ 0) w s, fun c t g i h => cut0 m c t g i h⟩
    (fun _ => iprop(emp))
    (fun _ _ => rfl) (fun c w => arr_after m c w)

end Cert.KernelIdeal.Scan
-- ==== Proof.KernelIdeal.Whole.lean ====
/- The launch and the run of @main: every cell's invariant allocated at launch, the rights to pay handed to the
   devices that pay, the credit of what the neighbours owe; the final values and every counter at zero. -/
module

public import proofs.«01_k».proof.Proof.KernelIdeal.Launch

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-! ## The rights to pay -/

/-- The duties on a device's own cells. -/
def tokTab : Fin 9 → Role × Bool :=
  ![(.bar, false), (.bar, true), (.ack, false), (.hsend, false), (.hrecv, false), (.send0, false), (.send1, false), (.recv0, false), (.recv1, false)]
theorem tokTab_inj : Function.Injective (fun i : Fin 9 => (semOf (tokTab i).1, (tokTab i).2)) := by decide
def tokEmb : Dev nD × Fin 9 ↪ GSem nD τ sig × ℕ × Bool :=
  ⟨fun ck => (cell ck.1 (tokTab ck.2).1, 0, (tokTab ck.2).2), fun _ _ h =>
    Prod.ext (congrArg (fun g : GSem nD τ sig × ℕ × Bool => g.1.1.1) h)
      (tokTab_inj (congrArg (fun g : GSem nD τ sig × ℕ × Bool => (g.1.2, g.2.2)) h))⟩
def toks : Finset (GSem nD τ sig × ℕ × Bool) := Finset.univ.map tokEmb

theorem disjoint_cells : Disjoint barCells scCells :=
  Finset.disjoint_left.mpr fun g hb hs => by
    obtain ⟨c, -, rfl⟩ := Finset.mem_map.mp hb
    obtain ⟨ck, -, h⟩ := Finset.mem_map.mp hs
    exact roleS_ne_bar ck.2 (congrArg Prod.snd h)

theorem bigSep_9 {M : Type} [URA M] (Φ : Fin 9 → sProp M) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The tokens of the duties on the device's own cells. -/
def ownToks (c : Dev nD) : sProp 𝕄 :=
  iprop(dutyTok ER (cell c .bar) 0 false ∗ dutyTok ER (cell c .bar) 0 true ∗ dutyTok ER (cell c .ack) 0 false
    ∗ dutyTok ER (cell c .hsend) 0 false ∗ dutyTok ER (cell c .hrecv) 0 false
    ∗ dutyTok ER (cell c .send0) 0 false ∗ dutyTok ER (cell c .send1) 0 false ∗ dutyTok ER (cell c .recv0) 0 false ∗ dutyTok ER (cell c .recv1) 0 false)

theorem toks_eq : bigSep toks (fun x => (dutyTok ER x.1 x.2.1 x.2.2 : sProp 𝕄)) = bigSep Finset.univ fun c : Dev nD => ownToks c := by
  unfold toks; rw [bigSep_map, bigSep_univ_prod]
  exact bigSep_congr fun c _ => by unfold ownToks; rw [bigSep_9]; rfl

/-- Each handed to the device that pays. -/
theorem toks_around : (bigSep Finset.univ fun c : Dev nD => (ownToks c : sProp 𝕄)) ⊢ bigSep Finset.univ fun c : Dev nD => tokens c := by
  unfold ownToks tokens
  simp only [bigSep_sep']
  rw [bigSep_univ_equiv turnX (fun c : Dev nD => (dutyTok ER (cell c .bar) 0 false : sProp 𝕄)),
    bigSep_univ_equiv turnY (fun c : Dev nD => (dutyTok ER (cell c .bar) 0 true : sProp 𝕄)),
    bigSep_univ_equiv turnY (fun c : Dev nD => (dutyTok ER (cell c .ack) 0 false : sProp 𝕄)),
    bigSep_univ_equiv turnY (fun c : Dev nD => (dutyTok ER (cell c .hrecv) 0 false : sProp 𝕄)),
    bigSep_univ_equiv turnX (fun c : Dev nD => (dutyTok ER (cell c .recv0) 0 false : sProp 𝕄)),
    bigSep_univ_equiv turnX (fun c : Dev nD => (dutyTok ER (cell c .recv1) 0 false : sProp 𝕄))]
  exact BI.Entails.refl _

/-! ## The ghost state at launch -/

def u₀ : UU :=
  (initOf (Pipeline.cells (Pipeline.pin (pcfgs (F := F)) adm) cellOf_inj) (Pipeline.launchToks (Pipeline.pin (pcfgs (F := F)) adm) cellOf_inj),
    launchOf barCells scCells toks)

/-- A resource, all of it on device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev (BI.own (ER (launchOf barCells scCells toks)))

/-! ## The credit at launch -/

theorem cell_inj {d c : Dev nD} {k k' : Role} (hk : k ≠ .other) (hk' : k' ≠ .other) (h : cell c k = cell d k') : c = d ∧ k = k' := by
  refine ⟨congrArg (fun g : GSem nD τ sig => g.1.1) h, ?_⟩
  rw [← role_semOf k hk, ← role_semOf k' hk']
  exact congrArg role (congrArg Prod.snd h)

theorem tally_at (d c : Dev nD) (k k' : Role) (hk : k ≠ .other) (hk' : k' ≠ .other) (a : ℕ) :
    tallyAt (cell d k') () a (cell c k) () = if c = d ∧ k = k' then a else 0 := by
  rw [tallyAt_apply]
  by_cases h : c = d ∧ k = k'
  · rw [if_pos h, if_pos ⟨by rw [h.1, h.2], rfl⟩]
  · rw [if_neg h, if_neg fun e => h (cell_inj hk hk' e.1)]

theorem owed_at (d c : Dev nD) (k : Role) (hk : k ≠ .other) : O₀ d (cell c k) () =
    ((((if c = px d ∧ k = .recv1 then NO else 0) + (if c = px d ∧ k = .recv0 then NO else 0))
      + (if First d then (if c = py d ∧ k = .hrecv then NH else 0) else (if c = py d ∧ k = .ack then 1 else 0)))
      + (if c = py d ∧ k = .bar then 1 else 0)) + (if c = px d ∧ k = .bar then 1 else 0) := by
  have e : oweMid d (cell c k) () = if First d then (if c = py d ∧ k = .hrecv then NH else 0) else (if c = py d ∧ k = .ack then 1 else 0) := by
    unfold oweMid
    split
    · exact tally_at _ _ _ _ hk (by decide) _
    · exact tally_at _ _ _ _ hk (by decide) _
  rw [← e, ← tally_at (px d) c k .recv1 hk (by decide), ← tally_at (px d) c k .recv0 hk (by decide), ← tally_at (py d) c k .bar hk (by decide),
    ← tally_at (px d) c k .bar hk (by decide)]
  rfl

/-- What is owed a cell, all devices together. -/
def due (c : Dev nD) : Role → ℕ
  | .bar => 2 | .hrecv => if First c then 0 else NH | .ack => if First c then 1 else 0 | .recv0 => NO | .recv1 => NO | _ => 0

theorem owed_sum (a b : ℕ) (c : Dev nD) (k : Role) (hk : k ≠ .other) :
    ∑ d : Dev nD, (((((if c = px d ∧ k = .recv1 then a else 0) + (if c = px d ∧ k = .recv0 then a else 0))
      + (if First d then (if c = py d ∧ k = .hrecv then b else 0) else (if c = py d ∧ k = .ack then 1 else 0)))
      + (if c = py d ∧ k = .bar then 1 else 0)) + (if c = px d ∧ k = .bar then 1 else 0))
    = match k with
      | .bar => 2 | .hrecv => if First c then 0 else b | .ack => if First c then 1 else 0 | .recv0 => a | .recv1 => a | _ => 0 := by
  rw [show (Finset.univ : Finset (Dev nD)) = {0, 1, 2, 3} from by decide, Finset.sum_insert (by decide), Finset.sum_insert (by decide),
    Finset.sum_insert (by decide), Finset.sum_singleton]
  have x0 : px 0 = 2 := by decide
  have x1 : px 1 = 3 := by decide
  have x2 : px 2 = 0 := by decide
  have x3 : px 3 = 1 := by decide
  have y0 : py 0 = 1 := by decide
  have y1 : py 1 = 0 := by decide
  have y2 : py 2 = 3 := by decide
  have y3 : py 3 = 2 := by decide
  have hc : c = 0 ∨ c = 1 ∨ c = 2 ∨ c = 3 := by revert c; decide
  rcases hc with rfl | rfl | rfl | rfl <;> cases k <;> simp +decide [x0, x1, x2, x3, y0, y1, y2, y3]

theorem launch_at (c : Dev nD) (k : Role) (hk : k ≠ .other) :
    tallyOn (cell c k) (launchCredit (Pipeline.owing O₀) 0 (cell c k)) = (tallyAt (cell c k) () (due c k) : CellTallies nD τ sig Unit) := by
  unfold tallyAt; refine congrArg _ (Finsupp.ext fun u => ?_); cases u
  rw [Pipeline.launchCredit_owing, Finsupp.single_eq_same, Finset.sum_congr rfl fun d _ => owed_at d c k hk, owed_sum _ _ c k hk]
  cases k <;> rfl

def credTab : Fin 5 → Role := ![.bar, .hrecv, .ack, .recv0, .recv1]
def credEmb : Fin 5 ↪ SemLoc sig := ⟨fun i => semOf (credTab i), by decide⟩
theorem bigSep_5 {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

theorem creds (c : Dev nD) : (Pipeline.launchCred O₀ c : sProp 𝕄) ⊢ credits c := by
  unfold Pipeline.launchCred
  refine BIBase.Entails.trans (bigSep_subset (Finset.subset_univ (Finset.univ.map credEmb))) (Entails.of_eq ?_)
  rw [bigSep_map]
  refine (bigSep_congr fun i _ => congrArg (fun t => (cred t : sProp 𝕄)) (launch_at c (credTab i) ((by decide : ∀ i, credTab i ≠ .other) i))).trans ?_
  rw [bigSep_5]; rfl

/-! ## The run -/

/-- The devices' states between the stretches of @main, beside the buffers. -/
def E : Fin 2 → Dev nD → sProp 𝕄
  | 0, c => iprop(Tk m c ∗ (∃ r, prngReg c r) ∗ ∃ W, owes (c : Thread nD τ) (O₀ c) W)
  | 1, c => iprop(semVal (cell c .bar) 0 ∗ ∃ W, owes (c : Thread nD τ) (0 : CellTallies nD τ sig Unit) W)

theorem unscopedSems0_eq (c : Dev nD) : (unscopedSems0 c : sProp 𝕄) = semVal (cell c .bar) 0 := by
  unfold unscopedSems0
  rw [show (Finset.univ.filter fun sm : SemLoc sig => ¬ sm.isScoped .tc = true) = {SemLoc.reg barS} from by decide, BI.bigSep_singleton]
  rfl
theorem unscoped_eq : ∀ sm : SemLoc sig, sm.isScoped .tc = false → sm = .reg barS := by decide

/-- A device's launch, beside its ghost state. -/
def bundle (c : Dev nD) : sProp 𝕄 :=
  iprop(StableHlo.held (c : Thread nD τ) (Pipeline.ucRefs τ sig) (V0 m c) ∗ credits c ∗ owes (c : Thread nD τ) (O₀ c) ∅ ∗ ∃ r, prngReg c r)
def T₀ (c : Dev nD) : sProp 𝕄 := iprop(StableHlo.held (c : Thread nD τ) (Pipeline.ucRefs τ sig) (V0 m c) ∗ E m 0 c)
def Tₙ (c : Dev nD) : sProp 𝕄 := iprop(StableHlo.held (c : Thread nD τ) (Pipeline.ucRefs τ sig) (V4 m (outs m) c) ∗ semVal (cell c .bar) 0)

theorem T₀_intro (κ : GSem nD τ sig → ℕ) (c : Dev nD) : iprop(records (stg m) κ ∗ (linear c ∗ bundle m c)) ⊢ T₀ m c := by
  unfold bundle T₀ E Tk
  iintro ⟨#HR, Hl, Hh, Hc, HO, Hp⟩
  isplitl [Hh]; · iexact Hh
  isplitl [Hl Hc]
  · isplitr; · iexists κ; iexact HR
    isplitl [Hl] <;> iassumption
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (cell c .bar) 0 ∗ G c)) : sProp 𝕄) := by
    have e : (unscopedBufs c (fun b => m ((c.tc : Thread nD τ).loc b)) : sProp 𝕄) = StableHlo.held (c : Thread nD τ) (Pipeline.ucRefs τ sig) (V0 m c) :=
      Pipeline.unscopedBufs_held (Ix := Unit) (Name := ℕ) (U := UU) (Lvl := ℕ) c (V0 m c)
    rw [e, unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun i : Fin 7 => (openTok ER (cell c (roleS i)) : sProp 𝕄)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (cell c .bar) 0 ∗ G c)) : sProp 𝕄) from bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (G (F := F)) ⊢ BI.own (ER (launchOf barCells scCells toks)) from
    Entails.of_eq (bigSep_onDev (F := F) (BI.own (ER (launchOf barCells scCells toks))))) $$ HG
  imod (Rounds.fund_launch ER (rd (stg m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (stg m) κ) (Φ := fun c => iprop(linear c ∗ bundle m c)) fun c _ => T₀_intro m κ c)
  isplitr
  · unfold records
    isplitr; · iexact Hinv
    iexact Hr
  iapply (Entails.of_eq (bigSep_sep' ..).symm)
  isplitr [HB]
  · unfold linear
    iapply (Entails.of_eq (bigSep_sep' ..).symm); isplitl [Hat]; · iapply hat $$ Hat
    iapply (Entails.of_eq (bigSep_sep' ..).symm); isplitl [Hopen]; · iapply hopen $$ Hopen
    iapply (toks_around (F := F))
    iapply (Entails.of_eq (toks_eq (F := F))) $$ Htok
  · iexact HB

theorem held_others (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) others V) :=
  StableHlo.held_sub_split (c.tc : Thread nD τ) (Pipeline.arrRefs_sub_ucRefs spec0 winFacts0.arr_unscoped) V

theorem reg0_pre (c : Dev nD) : iprop(StableHlo.held (c : Thread nD τ) (Pipeline.ucRefs τ sig) (V1 m c) ∗ E m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ Tk m c ∗ ∃ Wd, owes (c : Thread nD τ) (0 + O₀ c) Wd)
  rw [zero_add, held_others]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg0_post (c : Dev nD) : (reg0 m).post c ⊢ iprop(StableHlo.held (c : Thread nD τ) (Pipeline.ucRefs τ sig) (V2 m (outs m) c) ∗ E m 1 c) := by
  show iprop(StableHlo.held (c : Thread nD τ) (Pipeline.arrRefs (τ := τ) spec0) (V2 m (outs m) c) ∗ (∃ r, prngReg c r)
    ∗ (StableHlo.held (c : Thread nD τ) others (V2 m (outs m) c) ∗ emp) ∗ Yk c ∗ ∃ Wd, owes (c : Thread nD τ) 0 Wd) ⊢ _
  rw [held_others]
  unfold E Yk
  iintro ⟨Ha, -, ⟨Ho, -⟩, Hb, HO⟩
  isplitl [Ha Ho]
  · isplitl [Ha] <;> iassumption
  isplitl [Hb] <;> iassumption

set_option backward.isDefEq.respectTransparency.types false in
/-- From any memory with zero counters every weakly fair execution of @main on the four devices terminates; every final memory
    has the arguments as launched and the result at the last stretch's value, and every counter is zero. -/
theorem run_main : θ_run defs (onTc (τ := τ) (main (F := F))) ⟨m, fun _ => 0, ρ⟩ (fun r =>
    (∀ c : Dev nD, r.2.mem ((c.tc : Thread nD τ).loc main_v37) = V4 m (outs m) c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Seg.run_eq_chain,
        show (segs m (outs m) 𝒱₀ L lv (E m) () (pdats m) (reg0 m) c).map Seg.prog = [
          StableHlo.seq (hostOps0 c),
          Prog.lift (.customCall (Pipeline.entry 0) ()),
          StableHlo.seq hostOps1,
          StableHlo.seq hostOps1_1 ] from rfl]
      dsimp (config := { failIfUnchanged := false }) only
      exact .rfl)
    (fun c => by simp only [segs, Seg.pipes_host, Seg.pipes_region, Seg.pipes_nil]; decide) O₀ L_of_ne G (u₀ (F := F))
    (by
      unfold u₀ G
      iintro Hu
      ihave H := (ownU_pair _ _) $$ Hu
      icases H with ⟨HP, HX⟩
      imodintro
      isplitl [HP]; · iexact HP
      rw [bigSep_onDev]; iexact HX)
    (T₀ m) (Tₙ m)
    (fun c => ⟨.rfl, reg0_pre m c, reg0_post m c, .rfl, by
      show iprop(StableHlo.held (c : Thread nD τ) (Pipeline.ucRefs τ sig) (V4 m (outs m) c)
          ∗ (semVal (cell c .bar) 0 ∗ ∃ W, owes (c : Thread nD τ) (0 : CellTallies nD τ sig Unit) W))
        ⊢ iprop(Tₙ m c ∗ ∃ W, owes (c : Thread nD τ) (0 : CellTallies nD τ sig Unit) W)
      unfold Tₙ
      iintro ⟨Hh, Hb, HO⟩
      isplitr [HO]
      · isplitl [Hh] <;> iassumption
      · iexact HO⟩)
    (init m ρ)
    (fun c s => (s.mem ((c.tc : Thread nD τ).loc main_v37) = V4 m (outs m) c (Proc.devRef .tc main_v37)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)) ∧ s.sem (cell c .bar) = 0)
    (fun c s' => by
      unfold Tₙ StableHlo.held
      iintro ⟨⟨Hh, Hb0⟩, HSI⟩
      icombine HSI Hb0 gives %hb
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨⟨h (Proc.devRef .tc main_v37) (Finset.mem_filter.mpr ⟨StableHlo.devRef_mem_tcRefs main_v37, by decide⟩),
          (h (Proc.devRef .tc main_arg0) (Finset.mem_filter.mpr ⟨StableHlo.devRef_mem_tcRefs main_arg0, by decide⟩)).trans (V4_main_arg0 m (outs m) c),
          (h (Proc.devRef .tc main_arg1) (Finset.mem_filter.mpr ⟨StableHlo.devRef_mem_tcRefs main_arg1, by decide⟩)).trans (V4_main_arg1 m (outs m) c),
          (h (Proc.devRef .tc main_arg2) (Finset.mem_filter.mpr ⟨StableHlo.devRef_mem_tcRefs main_arg2, by decide⟩)).trans (V4_main_arg2 m (outs m) c),
          (h (Proc.devRef .tc main_arg3) (Finset.mem_filter.mpr ⟨StableHlo.devRef_mem_tcRefs main_arg3, by decide⟩)).trans (V4_main_arg3 m (outs m) c)⟩,
          by simpa using hb⟩
      · iexact HSI)
    (fun s h hs => ⟨fun c => (h c).1, sem_eq_zero hs fun c sm hsm => by
      obtain rfl := unscoped_eq sm hsm
      exact (h c).2⟩)

end Cert.KernelIdeal.Scan
-- ==== Proof.Frames.lean ====
/- The frames: each of the three programs runs to its end, leaves its arguments as they were and every counter at
   zero. The two forms under a precondition ask less. -/
module

public import proofs.«01_k».proof.Defs
public import proofs.«01_k».proof.Proof.Kernel.Whole
public import proofs.«01_k».proof.Proof.KernelIdeal.Whole
public import proofs.«01_k».proof.Proof.Gen.ReferenceIdeal.Run
public import Idealize.ShloMosaic.Lib.Quiescent

@[expose] public section

noncomputable section

namespace Cert.Frames

open Idealize.ShloMosaic Idealize.SL.Sem

theorem kernel : quiescent_Kernel (hKernel := Cert.Kernel.Gen.facts) := fun m ρ _ =>
  (θ_run _ _ _).mono (fun _ h => ⟨fun c => (h.1 c).2, h.2⟩) (Cert.Kernel.Scan.run_main m ρ)

theorem kernelIdeal : quiescent_KernelIdeal (hKernelIdeal := Cert.KernelIdeal.Gen.facts) := fun m ρ _ =>
  (θ_run _ _ _).mono (fun _ h => ⟨fun c => (h.1 c).2, h.2⟩) (Cert.KernelIdeal.Scan.run_main m ρ)

/-- The reference has no counters at all. -/
theorem referenceIdeal : quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

theorem below_kernelIdeal : Cert.Pre_decay_below_top_KernelIdeal.Facts := ⟨by decide, by decide⟩

theorem below_referenceIdeal : Cert.Pre_decay_below_top_ReferenceIdeal.Facts := ⟨by decide, by decide⟩

end Cert.Frames

end
-- ==== Proof.KernelIdeal.Operands.lean ====
/- The operands of the call and the result after it, as functions of a device's arguments. -/
module

public import proofs.«01_k».proof.Proof.KernelIdeal.Region
public import Idealize.ShloMosaic.Lib.Pointwise
public import Idealize.ShloMosaic.Lib.DynamicIndex
public import Idealize.ShloMosaic.Lib.StableHlo.RunRead
public import Idealize.ShloMosaic.Lib.StableHlo.RunClose

@[expose] public section

set_option maxRecDepth 16384

noncomputable section

namespace Cert.KernelIdeal.Scan

open Idealize.ShloMosaic Idealize.ShloMosaic.TcCoe Idealize.SL.Sem Cert.KernelIdeal.Gen StableHlo

variable {F : FTy → Type} [FloatOps F]

/-- The device's coordinate along the features' axis of the mesh, and its first feature, as the host computes them. -/
def row (c : Dev nD) : IVec S_ 32 :=
  id (Host.remui (Host.divui (constantI S_ 32 (Dev.word c)) (constantI S_ 32 2#32)) (constantI S_ 32 2#32))
def first (c : Dev nD) : IVec S_ 32 :=
  select (cmpi .slt (muli (row c) (constantI S_ 32 256#32)) (constantI S_ 32 0#32))
    (addi (muli (row c) (constantI S_ 32 256#32)) (constantI S_ 32 512#32)) (muli (row c) (constantI S_ 32 256#32))

theorem first_toInt (c : Dev nD) : (first c (Shape.Idx.first h_S_)).toInt = ((c.val / 2 * 256 : ℕ) : ℤ) := by
  revert c; decide

variable (m : (ℓ : Loc nD τ sig) → Buf (Elt F) ℓ) (c : Dev nD)

/-- The arrays the host hands the call, over the arguments. -/
theorem v10_eq : V1 m c main_v10 = shapeCast S8x32x16x256
    (Host.dynamicSlice S8x512x256 (m (c, Proc.devRef .tc main_arg0)) (fun k => ((![constantI S_ 32 0#32, constantI S_ 32 0#32, first c] : Fin 3 → IVec S_ 32) k (Shape.Idx.first h_S_)).toInt) sliceFits_S8x512x512_S8x512x256)
    shapeCasts_S8x512x256_S8x32x16x256 := by
  unfold V1 hostOps0
  after_reads_simp [unaryIndexed_result_read, indexContents_cons, indexContents_empty, dropContentsCast]
  rfl

theorem v12_eq : V1 m c main_v12 = transpose S8x32x16x16 [0, 1, 3, 2]
    (shapeCast S8x32x16x16 (m (c, Proc.devRef .tc main_arg2)) shapeCasts_S8x512x16_S8x32x16x16) transposes_S8x32x16x16_S8x32x16x16_0_1_3_2 := by
  unfold V1 hostOps0
  after_reads_simp
  rfl

theorem v14_eq : V1 m c main_v14 = transpose S8x32x16x16 [0, 1, 3, 2]
    (shapeCast S8x32x16x16 (m (c, Proc.devRef .tc main_arg3)) shapeCasts_S8x512x16_S8x32x16x16) transposes_S8x32x16x16_S8x32x16x16_0_1_3_2 := by
  unfold V1 hostOps0
  after_reads_simp
  rfl

theorem v25_eq : V1 m c main_v25 = Host.dynamicSlice S16x256
    (transpose S16x512 [1, 0] (Host.exp (m (c, Proc.devRef .tc main_arg1))) transposes_S512x16_S16x512_1_0)
    (fun k => ((![constantI S_ 32 0#32, first c] : Fin 2 → IVec S_ 32) k (Shape.Idx.first h_S_)).toInt) sliceFits_S16x512_S16x256 := by
  unfold V1 hostOps0
  after_reads_simp [unaryIndexed_result_read, indexContents_cons, indexContents_empty, dropContentsCast]
  rfl

theorem v30_eq : V1 m c main_v30 = Host.dynamicSlice S16x256
    (transpose S16x512 [1, 0] (Host.exp (mulf (broadcastInDim S512x16 ![] bcast_S_S512x16 (constant S_ .bf16 0x4180#16)) (m (c, Proc.devRef .tc main_arg1)))) transposes_S512x16_S16x512_1_0)
    (fun k => ((![constantI S_ 32 0#32, first c] : Fin 2 → IVec S_ 32) k (Shape.Idx.first h_S_)).toInt) sliceFits_S16x512_S16x256 := by
  unfold V1 hostOps0
  after_reads_simp [unaryIndexed_result_read, indexContents_cons, indexContents_empty, dropContentsCast]
  rfl

theorem v4_eq : V1 m c main_v4 = row c := by
  unfold V1 hostOps0
  after_reads_simp
  rfl

/-- A device's own columns `p` and its pair's `q`, in the columns' order. -/
def cols (p q : Vec F S8x32x16x256 .bf16) : Vec F S8x512x512 .bf16 :=
  select (broadcastInDim S8x512x512 ![] bcast_S_S8x512x512 (cmpi .eq (row c) (constantI S_ 32 0#32)))
    (concatenate S8x512x512 2 [⟨S8x512x256, shapeCast S8x512x256 p shapeCasts_S8x32x16x256_S8x512x256⟩, ⟨S8x512x256, shapeCast S8x512x256 q shapeCasts_S8x32x16x256_S8x512x256⟩] concatenates_S8x512x256_S8x512x256_S8x512x512_d2)
    (concatenate S8x512x512 2 [⟨S8x512x256, shapeCast S8x512x256 q shapeCasts_S8x32x16x256_S8x512x256⟩, ⟨S8x512x256, shapeCast S8x512x256 p shapeCasts_S8x32x16x256_S8x512x256⟩] concatenates_S8x512x256_S8x512x256_S8x512x512_d2)

/-- The result, over the call's two results. -/
theorem v37_eq (outs : ℕ → (r : Ref sig .tc) → Dev nD → r.ty.Contents (Elt F)) : V4 m outs c main_v37 = cols c (outs 2 main_v31_0 c) (outs 2 main_v31_1 c) := by
  have h4 : V2 m outs c main_v4 = row c := (V2_of m outs c main_v4 (by decide)).trans (v4_eq m c)
  have h0 : V2 m outs c main_v31_0 = outs 2 main_v31_0 c := rfl
  have h1 : V2 m outs c main_v31_1 = outs 2 main_v31_1 c := rfl
  unfold cols
  rw [← h0, ← h1, ← h4]
  unfold V4 V3
  generalize V2 m outs c = W
  unfold hostOps1 hostOps1_1
  after_reads_simp
  rfl

/-! The operands read at an index. -/

/-- The first feature of a device's column, and the slices' start there. -/
theorem first_lt : c.val / 2 * 256 + 256 ≤ 512 := by have := c.isLt; simp only [nD] at this; omega

/-- The start of a slice at the column's first feature is that feature: nothing is clamped. -/
theorem clamp_x (k : Fin 3) (h) : Host.clampedStart S8x512x512 S8x512x256 h
    (fun k => ((![constantI S_ 32 0#32, constantI S_ 32 0#32, first c] : Fin 3 → IVec S_ 32) k (Shape.Idx.first h_S_)).toInt) k
    = (![0, 0, c.val / 2 * 256] : Fin 3 → ℕ) k := by
  have := first_lt c
  fin_cases k
  · rfl
  · rfl
  · simp only [Host.clampedStart, Matrix.cons_val, Fin.reduceFinMk, first_toInt]
    show (min (max (((c.val / 2 * 256 : ℕ) : ℤ)) 0) ((512 - 256 : ℕ) : ℤ)).toNat = _
    omega

theorem clamp_a (k : Fin 2) (h) : Host.clampedStart S16x512 S16x256 h
    (fun k => ((![constantI S_ 32 0#32, first c] : Fin 2 → IVec S_ 32) k (Shape.Idx.first h_S_)).toInt) k
    = (![0, c.val / 2 * 256] : Fin 2 → ℕ) k := by
  have := first_lt c
  fin_cases k
  · rfl
  · simp only [Host.clampedStart, Matrix.cons_val, Fin.mk_one, first_toInt]
    show (min (max (((c.val / 2 * 256 : ℕ) : ℤ)) 0) ((512 - 256 : ℕ) : ℤ)).toNat = _
    omega

variable {c} in
theorem cut_x (x : Vec F S8x512x512 .bf16) (b : Fin 8) (k : Fin 32) (t : Fin 16) (d : Fin 256) :
    (shapeCast S8x32x16x256 (Host.dynamicSlice S8x512x256 x (fun k => ((![constantI S_ 32 0#32, constantI S_ 32 0#32, first c] : Fin 3 → IVec S_ 32) k (Shape.Idx.first h_S_)).toInt) sliceFits_S8x512x512_S8x512x256)
      shapeCasts_S8x512x256_S8x32x16x256) (ix4 b k t d)
    = x (ix3 b ⟨16 * k.val + t.val, by omega⟩ ⟨c.val / 2 * 256 + d.val, by have := first_lt c; omega⟩) := by
  pointwise [clamp_x]
  congr 2
  refine Fin.ext ?_
  show k.val * 16 + t.val = 16 * k.val + t.val
  omega

theorem cut_b (x : Vec F S8x512x16 .bf16) (b : Fin 8) (k : Fin 32) (n t : Fin 16) :
    (transpose S8x32x16x16 [0, 1, 3, 2] (shapeCast S8x32x16x16 x shapeCasts_S8x512x16_S8x32x16x16) transposes_S8x32x16x16_S8x32x16x16_0_1_3_2) (ix4 b k n t)
    = x (ix3 b ⟨16 * k.val + t.val, by omega⟩ n) := by
  pointwise
  congr 2
  refine Fin.ext ?_
  show k.val * 16 + t.val = 16 * k.val + t.val
  omega

variable {c} in
theorem cut_a (x : Vec F S512x16 .bf16) (n : Fin 16) (d : Fin 256) :
    (Host.dynamicSlice S16x256 (transpose S16x512 [1, 0] x transposes_S512x16_S16x512_1_0)
      (fun k => ((![constantI S_ 32 0#32, first c] : Fin 2 → IVec S_ 32) k (Shape.Idx.first h_S_)).toInt) sliceFits_S16x512_S16x256) (ix2 n d)
    = x (ix2 ⟨c.val / 2 * 256 + d.val, by have := first_lt c; omega⟩ n) := by
  pointwise [clamp_a]

theorem x_at (b : Fin 8) (k : Fin 32) (t : Fin 16) (d : Fin 256) : (stg m c).x (ix4 b k t d)
    = m (c, Proc.devRef .tc main_arg0) (ix3 b ⟨16 * k.val + t.val, by omega⟩ ⟨c.val / 2 * 256 + d.val, by have := first_lt c; omega⟩) :=
  (congrFun (v10_eq m c) _).trans (cut_x _ b k t d)

theorem b_at (b : Fin 8) (k : Fin 32) (n t : Fin 16) : (stg m c).b (ix4 b k n t)
    = m (c, Proc.devRef .tc main_arg2) (ix3 b ⟨16 * k.val + t.val, by omega⟩ n) :=
  (congrFun (v12_eq m c) _).trans (cut_b _ b k n t)

theorem c_at (b : Fin 8) (k : Fin 32) (n t : Fin 16) : (stg m c).c (ix4 b k n t)
    = m (c, Proc.devRef .tc main_arg3) (ix3 b ⟨16 * k.val + t.val, by omega⟩ n) :=
  (congrFun (v14_eq m c) _).trans (cut_b _ b k n t)

theorem a_at (m : (ℓ : Loc nD τ sig) → Buf (Elt Ideal) ℓ) (n : Fin 16) (d : Fin 256) : (stg m c).a (ix2 n d)
    = Ideal.exp (m (c, Proc.devRef .tc main_arg1) (ix2 ⟨c.val / 2 * 256 + d.val, by have := first_lt c; omega⟩ n)) :=
  (congrFun (v25_eq m c) _).trans
    (cut_a (F := Ideal) (c := c) (Host.exp (F := Ideal) (s := S512x16) (φ := .bf16) (m (c, Proc.devRef .tc main_arg1))) n d)

/-- The sixteen that the decay is multiplied by. -/
theorem sixteen : FloatOps.ofBits (F := Ideal) .bf16 0x4180#16 = ((16 : ℝ) : EReal) := by
  show Ideal.ofBits .bf16 0x4180#16 = _
  simp [Ideal.ofBits, Ideal.ieee]
  rw [← EReal.coe_mul]
  norm_num

theorem a16_at (m : (ℓ : Loc nD τ sig) → Buf (Elt Ideal) ℓ) (n : Fin 16) (d : Fin 256) : (stg m c).a16 (ix2 n d)
    = Ideal.exp (((16 : ℝ) : EReal) * m (c, Proc.devRef .tc main_arg1) (ix2 ⟨c.val / 2 * 256 + d.val, by have := first_lt c; omega⟩ n)) := by
  rw [← sixteen]
  exact (congrFun (v30_eq m c) _).trans (cut_a (F := Ideal) (c := c) (Host.exp (F := Ideal) (s := S512x16) (φ := .bf16)
    (mulf (broadcastInDim S512x16 ![] bcast_S_S512x16 (constant S_ .bf16 0x4180#16)) (m (c, Proc.devRef .tc main_arg1)))) n d)

theorem row_zero : IntOp.cmpi CmpIPredicate.eq (row c ix0) 0#32 = if c.val / 2 = 0 then 1#1 else 0#1 := by
  revert c; decide

/-- The result's columns are the two halves in the columns' order. -/
theorem joined (p q : Vec F S8x32x16x256 .bf16) (b : Fin 8) (s : Fin 512) (d : Fin 512) : cols c p q (ix3 b s d)
    = (if c.val / 2 = d.val / 256 then p else q) (ix4 b ⟨s.val / 16, by omega⟩ ⟨s.val % 16, by omega⟩ ⟨d.val % 256, by omega⟩) := by
  unfold cols
  pointwise
  rw [row_zero]
  have hc : c.val / 2 < 2 := by have := first_lt c; omega
  have hd : d.val % 256 = if d.val < 256 then d.val else d.val - 256 := by split <;> omega
  have hq : (c.val / 2 = d.val / 256) = if d.val < 256 then c.val / 2 = 0 else ¬ c.val / 2 = 0 := by
    split <;> refine propext ?_ <;> omega
  simp only [hq]
  clear hq
  by_cases h : d.val < 256 <;> by_cases hz : c.val / 2 = 0 <;>
    simp [h, hz, hd, Scalar.select]

end Cert.KernelIdeal.Scan

end
-- ==== Proof.Spec.lean ====
/- The recurrence over extended reals, and what a scan taken in blocks of sixteen steps has to do with it. -/
module

public import Idealize.ShloMosaic.PureOps.Ideal
public import Idealize.ShloMosaic.Lib.Pointwise

@[expose] public section

noncomputable section

namespace Cert.Spec

open Idealize.ShloMosaic

/-- The state after `t` steps of decay `e` and increments `u`, from `h`. -/
def scan (e : EReal) (u : ℕ → EReal) (h : EReal) : ℕ → EReal
  | 0 => h
  | t + 1 => scan e u h t * e + u t

variable {e : EReal} {u v : ℕ → EReal} {h : EReal}

theorem scan_congr {n : ℕ} (huv : ∀ t < n, u t = v t) : scan e u h n = scan e v h n := by
  induction n with
  | zero => rfl
  | succ n ih =>
    show scan e u h n * e + u n = scan e v h n * e + v n
    rw [ih fun t ht => huv t (Nat.lt_succ_of_lt ht), huv n (Nat.lt_succ_self n)]

/-- A scan goes on from where it stands. -/
theorem scan_add (a b : ℕ) : scan e u h (a + b) = scan e (fun t => u (a + t)) (scan e u h a) b := by
  induction b with
  | zero => rfl
  | succ b ih =>
    show scan e u h (a + b) * e + u (a + b) = _
    rw [ih]; rfl

/-- What a scan starts from decays on its own, the decay being a nonnegative number below the top. -/
theorem scan_start (h0 : 0 ≤ e) (ht : e ≠ ⊤) (n : ℕ) : scan e u h n = h * e ^ n + scan e u 0 n := by
  induction n with
  | zero => show h = h * e ^ 0 + 0; rw [pow_zero, mul_one, add_zero]
  | succ n ih =>
    show scan e u h n * e + u n = h * e ^ (n + 1) + (scan e u 0 n * e + u n)
    rw [ih, EReal.right_distrib_of_nonneg_of_ne_top h0 ht, mul_assoc, ← pow_succ, add_assoc]

/-- A block of `b` steps taken from zero and its start decayed over all of them. -/
theorem scan_block (h0 : 0 ≤ e) (ht : e ≠ ⊤) (a b : ℕ) :
    scan e u h a * e ^ b + scan e (fun t => u (a + t)) 0 b = scan e u h (a + b) := by
  rw [scan_add, ← scan_start h0 ht]

/-! ## The decay -/

theorem exp_nonneg (a : EReal) : 0 ≤ Ideal.exp a := by
  induction a using EReal.rec with
  | bot => exact le_refl _
  | top => exact le_top
  | coe r => exact EReal.coe_nonneg.2 (Real.exp_pos r).le

theorem exp_ne_top {a : EReal} (h : a < ⊤) : Ideal.exp a ≠ ⊤ := by
  induction a using EReal.rec with
  | bot => exact EReal.zero_ne_top
  | top => exact absurd h (lt_irrefl _)
  | coe r => exact EReal.coe_ne_top _

theorem exp_sixteen {a : EReal} (h : a < ⊤) : Ideal.exp (((16 : ℝ) : EReal) * a) = Ideal.exp a ^ 16 := by
  induction a using EReal.rec with
  | bot =>
    rw [EReal.coe_mul_bot_of_pos (by norm_num)]
    exact (zero_pow (by decide)).symm
  | top => exact absurd h (lt_irrefl _)
  | coe r =>
    rw [← EReal.coe_mul]
    show ((Real.exp (16 * r) : ℝ) : EReal) = ((Real.exp r : ℝ) : EReal) ^ 16
    rw [← EReal.coe_pow, ← Real.exp_nat_mul]
    norm_num

/-! ## The layer -/

/-- What step `t` adds to the state of feature `d` and component `n`. -/
def inc (x : (⟨3, ![8, 1024, 512]⟩ : Shape).Idx → EReal) (b : (⟨3, ![8, 1024, 16]⟩ : Shape).Idx → EReal)
    (i : Fin 8) (d : Fin 512) (n : Fin 16) (t : ℕ) : EReal :=
  if ht : t < 1024 then x (ix3 i ⟨t, ht⟩ d) * b (ix3 i ⟨t, ht⟩ n) else 0

/-- The state before step `t`. -/
def state (x : (⟨3, ![8, 1024, 512]⟩ : Shape).Idx → EReal) (a : (⟨2, ![512, 16]⟩ : Shape).Idx → EReal)
    (b : (⟨3, ![8, 1024, 16]⟩ : Shape).Idx → EReal) (i : Fin 8) (d : Fin 512) (n : Fin 16) (t : ℕ) : EReal :=
  scan (Ideal.exp (a (ix2 d n))) (inc x b i d n) 0 t

/-- The layer's result at step `t`. -/
def layer (x : (⟨3, ![8, 1024, 512]⟩ : Shape).Idx → EReal) (a : (⟨2, ![512, 16]⟩ : Shape).Idx → EReal)
    (b c : (⟨3, ![8, 1024, 16]⟩ : Shape).Idx → EReal) (i : Fin 8) (t : Fin 1024) (d : Fin 512) : EReal :=
  ∑ n : Fin 16, state x a b i d n (t.val + 1) * c (ix3 i t n)

end Cert.Spec

end
-- ==== Proof.KernelIdeal.Sums.lean ====
/- What a device computes, as a scan over its half of the time axis: the blocks of sixteen steps taken from zero, the
   states they start from, and the second pass over them are one recurrence in 512 steps. -/
module

public import proofs.«01_k».proof.Proof.KernelIdeal.Model
public import proofs.«01_k».proof.Proof.Spec

@[expose] public section

set_option maxRecDepth 16384

noncomputable section

namespace Cert.KernelIdeal.Scan

open Idealize.ShloMosaic Idealize.SL.Sem Cert.KernelIdeal.Gen Cert.Spec

namespace Stage

variable (s : Stage Ideal)

/-- What time step `t` of block `k` adds to the state of feature `d` and component `n`. -/
def u (b : Fin 8) (k : Fin 32) (n : Fin 16) (d : Fin 256) (t : Fin 16) : EReal := s.x (ix4 b k t d) * s.b (ix4 b k n t)

/-- Step `τ` of the half, block by block. -/
def steps (b : Fin 8) (n : Fin 16) (d : Fin 256) (τ : ℕ) : EReal :=
  if h : τ / 16 < 32 then s.u b ⟨τ / 16, h⟩ n d ⟨τ % 16, Nat.mod_lt _ (by decide)⟩ else 0

theorem steps_at (b : Fin 8) (n : Fin 16) (d : Fin 256) (k : Fin 32) (t : Fin 16) : s.steps b n d (16 * k.val + t.val) = s.u b k n d t := by
  have hq : (16 * k.val + t.val) / 16 = k.val := by omega
  have hr : (16 * k.val + t.val) % 16 = t.val := by omega
  unfold steps
  rw [dif_pos (by rw [hq]; exact k.isLt)]
  congr 1 <;> exact Fin.ext (by assumption)

theorem xs_at (t : Fin 16) (b : Fin 8) (k : Fin 32) (d : Fin 256) : s.xs t (ix4 b k 0 d) = s.x (ix4 b k t d) := by
  refine congrArg s.x (funext fun a => Fin.ext ?_)
  match a with
  | ⟨0, _⟩ => exact (Nat.zero_add _).trans (Nat.one_mul _)
  | ⟨1, _⟩ => exact (Nat.zero_add _).trans (Nat.one_mul _)
  | ⟨2, _⟩ => rfl
  | ⟨3, _⟩ => exact (Nat.zero_add _).trans (Nat.one_mul _)

theorem bs_at (t : Fin 16) (b : Fin 8) (k : Fin 32) (n : Fin 16) : s.bs t (ix4 b k n 0) = s.b (ix4 b k n t) := by
  refine congrArg s.b (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨3, _⟩ => rfl

theorem cs_at (t : Fin 16) (b : Fin 8) (k : Fin 32) (n : Fin 16) : s.cs t (ix4 b k n 0) = s.c (ix4 b k n t) :=
  bs_at { s with b := s.c } t b k n

theorem dA_at (n : Fin 16) (d : Fin 256) : s.dA (ix4 0 0 n d) = s.a (ix2 n d) := by
  pointwise [dA, k0_pay2]

theorem d16_at (n : Fin 16) (d : Fin 256) : s.d16 (ix3 0 n d) = s.a16 (ix2 n d) := by
  pointwise [d16, k0_pay3]

/-- The block sums are the blocks' scans from zero. -/
theorem loc_at (b : Fin 8) (k : Fin 32) (n : Fin 16) (d : Fin 256) : ∀ j : ℕ, j < 16 →
    s.loc j (ix4 b k n d) = scan (s.a (ix2 n d)) (fun t => s.steps b n d (16 * k.val + t)) 0 (j + 1)
  | 0, _ => by
    show _ = 0 * _ + s.steps b n d (16 * k.val + ((0 : Fin 16).val))
    rw [steps_at, zero_mul, zero_add]
    pointwise [loc, k0_pay4, k0_pay5, xs_at, bs_at, u]
  | j + 1, hj => by
    have ih := loc_at b k n d j (by omega)
    show _ = scan (s.a (ix2 n d)) (fun t => s.steps b n d (16 * k.val + t)) 0 (j + 1) * _ + s.steps b n d (16 * k.val + ((⟨j + 1, hj⟩ : Fin 16).val))
    rw [steps_at, ← ih, s.loc_succ ⟨j + 1, hj⟩ j rfl]
    pointwise [k0_pay6, xs_at, bs_at, dA_at, u]

theorem row_at (k : Fin 32) (b : Fin 8) (n : Fin 16) (d : Fin 256) : s.row k (ix4 b 0 n d) = s.loc 15 (ix4 b k n d) := by
  refine congrArg (s.loc 15) (funext fun a => Fin.ext ?_)
  match a with
  | ⟨0, _⟩ => exact (Nat.zero_add _).trans (Nat.one_mul _)
  | ⟨1, _⟩ => rfl
  | ⟨2, _⟩ => exact (Nat.zero_add _).trans (Nat.one_mul _)
  | ⟨3, _⟩ => exact (Nat.zero_add _).trans (Nat.one_mul _)

variable (H : FVec Ideal S8x16x256 .f32)

/-- The state of feature `d` and component `n` before step `τ` of the half. -/
def at' (b : Fin 8) (n : Fin 16) (d : Fin 256) (τ : ℕ) : EReal := scan (s.a (ix2 n d)) (s.steps b n d) (H (ix3 b n d)) τ

variable (h0 : ∀ n d, 0 ≤ s.a (ix2 n d)) (ht : ∀ n d, s.a (ix2 n d) ≠ ⊤) (h16 : ∀ n d, s.a16 (ix2 n d) = s.a (ix2 n d) ^ 16)

include h0 ht h16

theorem carry_at (b : Fin 8) (n : Fin 16) (d : Fin 256) : ∀ k : ℕ, k ≤ 32 → s.carry H k (ix3 b n d) = s.at' H b n d (16 * k)
  | 0, _ => rfl
  | k + 1, hk => by
    have ih := carry_at b n d k (by omega)
    rw [s.carry_succ H ⟨k, hk⟩]
    pointwise [k0_pay32, k0_pay29, k0_pay31, row_at, d16_at]
    rw [ih, h16, s.loc_at b ⟨k, hk⟩ n d 15 (by decide)]
    exact scan_block (h0 n d) (ht n d) (16 * k) 16

theorem run_at (b : Fin 8) (k : Fin 32) (n : Fin 16) (d : Fin 256) : ∀ t : ℕ, t ≤ 16 → s.run H t (ix4 b k n d) = s.at' H b n d (16 * k.val + t)
  | 0, _ => by
    show s.rows H 32 (ix4 b k n d) = _
    unfold rows
    rw [if_pos (show ((ix4 b k n d : S8x32x16x256.Idx) 1).val < 32 from k.isLt)]
    have e : inRow (ix4 b k n d) = ix4 b 0 n d := by
      funext a
      match a with
      | ⟨0, _⟩ => rfl
      | ⟨1, _⟩ => rfl
      | ⟨2, _⟩ => rfl
      | ⟨3, _⟩ => rfl
    rw [e]
    show k0_pay30 (F := Ideal) (s.carry H k.val) (ix4 b 0 n d) = _
    pointwise [k0_pay30]
    exact s.carry_at H h0 ht h16 b n d k.val (by omega)
  | t + 1, htt => by
    have ih := run_at b k n d t (by omega)
    rw [s.run_succ H ⟨t, htt⟩]
    show _ = s.at' H b n d (16 * k.val + t) * _ + s.steps b n d (16 * k.val + (⟨t, htt⟩ : Fin 16).val)
    rw [steps_at, ← ih]
    pointwise [k0_pay118, k0_pay117, k0_pay115, k0_pay116, xs_at, bs_at, dA_at, u]

/-- The state the half ends with. -/
theorem stop_at (b : Fin 8) (n : Fin 16) (d : Fin 256) : s.stop H (ix3 b n d) = s.at' H b n d 512 := by
  pointwise [stop]
  exact s.carry_at H h0 ht h16 b n d 32 (le_refl _)

/-- The half's output. -/
theorem out_at (b : Fin 8) (k : Fin 32) (t : Fin 16) (d : Fin 256) :
    s.out H (ix4 b k t d) = ∑ n : Fin 16, s.at' H b n d (16 * k.val + t.val + 1) * s.c (ix4 b k n t) := by
  have e : inStep (ix4 b k t d) = ix4 b k 0 d := by
    funext a
    match a with
    | ⟨0, _⟩ => rfl
    | ⟨1, _⟩ => rfl
    | ⟨2, _⟩ => rfl
    | ⟨3, _⟩ => rfl
  unfold out
  rw [e]
  show s.yrow H t (ix4 b k 0 d) = _
  pointwise [yrow, k0_pay119, k0_pay117, k0_pay115, k0_pay116, xs_at, bs_at, cs_at, dA_at]
  refine Finset.sum_congr rfl fun n _ => congrArg (· * s.c (ix4 b k n t)) ?_
  show _ = s.at' H b n d (16 * k.val + t.val) * _ + s.steps b n d (16 * k.val + t.val)
  rw [steps_at, s.run_at H h0 ht h16 b k n d t.val t.isLt.le]
  rfl

end Stage

end Cert.KernelIdeal.Scan

end
-- ==== Proof.Layer.lean ====
/- The reference's loop makes the layer. -/
module

public import proofs.«01_k».proof.Proof.Gen.ReferenceIdeal.Run
public import proofs.«01_k».proof.Proof.Spec
public import Idealize.ShloMosaic.Lib.DynamicIndex
public import Idealize.ShloMosaic.Lib.IdealHost

@[expose] public section

set_option maxRecDepth 16384

noncomputable section

namespace Cert.ReferenceIdeal.Layer

open Idealize.ShloMosaic Idealize.ShloMosaic.TcCoe Idealize.SL.Sem Cert.ReferenceIdeal.Gen Cert.ReferenceIdeal.Value StableHlo Cert.Spec

/-- The counter before step `k`, and where that step reads and writes. -/
def cnt (k : ℕ) : IVec S_ 32 := constantI S_ 32 (BitVec.ofNat 32 k)
def start (k : ℕ) : Fin 3 → ℤ := fun j => ((![constantI S_ 32 0#32,
  select (cmpi .slt (cnt k) (constantI S_ 32 0#32)) (addi (id (cnt k)) (constantI S_ 32 1024#32)) (cnt k), constantI S_ 32 0#32] : Fin 3 → IVec S_ 32) j (Shape.Idx.first h_S_)).toInt

theorem start_at {k : ℕ} (hk : k < 1024) (j : Fin 3) : start k j = ((![0, k, 0] : Fin 3 → ℕ) j : ℤ) := by
  fin_cases j
  · rfl
  · exact toInt_wrap_ofNat k (by omega)
  · rfl

theorem clamp {p k : ℕ} (hk : k < 1024) (h) (j : Fin 3) :
    Host.clampedStart ⟨3, ![8, 1024, p]⟩ ⟨3, ![8, 1, p]⟩ h (start k) j = (![0, k, 0] : Fin 3 → ℕ) j := by
  refine Host.clampedStart_of_le _ _ _ _ (start_at hk j) ?_
  fin_cases j
  · exact le_of_eq (Nat.zero_add _)
  · exact hk
  · exact le_of_eq (Nat.zero_add _)

/-- One step's slice, and one step's row put into the result. -/
theorem slice_at {α : Type} {p k : ℕ} (hk : k < 1024) (x : (⟨3, ![8, 1024, p]⟩ : Shape).Idx → α) (h) (i : Fin 8) (o : Fin 1) (d : Fin p) :
    Host.dynamicSlice ⟨3, ![8, 1, p]⟩ x (start k) h (ix3 i o d) = x (ix3 i ⟨k, hk⟩ d) := by
  refine congrArg x (funext fun j => Fin.ext ?_)
  have hc := clamp (p := p) hk h.1 j
  show Host.clampedStart ⟨3, ![8, 1024, p]⟩ ⟨3, ![8, 1, p]⟩ h.1 (start k) j + (ix3 i o d j).val = _
  rw [hc]
  fin_cases j <;> simp

theorem update_at {α : Type} {p k : ℕ} (hk : k < 1024) (x : (⟨3, ![8, 1024, p]⟩ : Shape).Idx → α) (u : (⟨3, ![8, 1, p]⟩ : Shape).Idx → α) (h)
    (i : Fin 8) (t : Fin 1024) (d : Fin p) :
    Host.dynamicUpdateSlice x u (start k) h (ix3 i t d) = if t.val = k then u (ix3 i 0 d) else x (ix3 i t d) := by
  rw [Host.dynamicUpdateSlice_apply]
  by_cases e : t.val = k
  · rw [if_pos e, dif_pos]
    · refine congrArg u (funext fun j => Fin.ext ?_)
      fin_cases j <;> simp [clamp hk, Shape.Idx.norm, e]
    · intro j
      rw [clamp hk]
      fin_cases j <;> simp [e]
  · rw [if_neg e, dif_neg]
    intro hall
    have h1 := hall (1 : Fin 3)
    rw [clamp hk] at h1
    have : k ≤ t.val ∧ t.val < k + 1 := h1
    omega

variable (x : S8x1024x512.Idx → EReal) (a : S512x16.Idx → EReal) (b c : S8x1024x16.Idx → EReal)

/-- What the buffers hold before step `k`. -/
structure Before (k : ℕ) (V : Valuation τ sig (Elt Ideal)) : Prop where
  seq : V (Proc.devRef .tc main_v8_0) = x
  inp : V (Proc.devRef .tc main_v8_1) = b
  out : V (Proc.devRef .tc main_v8_2) = c
  dec : ∀ (o : Fin 1) d n, V (Proc.devRef .tc main_v8_3) (ix3 o d n) = Ideal.exp (a (ix2 d n))
  now : V (Proc.devRef .tc main_v8_5) = cnt k
  mem : ∀ i d n, V (Proc.devRef .tc main_v8_6) (ix3 i d n) = state x a b i d n k
  res : ∀ i (t : Fin 1024) d, t.val < k → V (Proc.devRef .tc main_v8_7) (ix3 i t d) = layer x a b c i t d

variable {x a b c}

theorem state_succ {k : ℕ} (hk : k < 1024) (i : Fin 8) (d : Fin 512) (n : Fin 16) :
    state x a b i d n (k + 1) = state x a b i d n k * Ideal.exp (a (ix2 d n)) + x (ix3 i ⟨k, hk⟩ d) * b (ix3 i ⟨k, hk⟩ n) := by
  show state x a b i d n k * Ideal.exp (a (ix2 d n)) + inc x b i d n k = _
  rw [inc, dif_pos hk]

/-- The state a step makes. -/
def next (H : FVec Ideal S8x512x16 .f32) (E : FVec Ideal S1x512x16 .f32) (x : FVec Ideal S8x1024x512 .f32) (b : FVec Ideal S8x1024x16 .f32) (k : ℕ) : FVec Ideal S8x512x16 .f32 :=
  addf (mulf H (broadcastInDim S8x512x16 ![0, 1, 2] bcast_S1x512x16_S8x512x16_0_1_2 E)) (mulf (broadcastInDim S8x512x16 ![0, 1, 2] bcast_S8x512x1_S8x512x16_0_1_2 (broadcastInDim S8x512x1 ![0, 1] bcast_S8x512_S8x512x1_0_1 (shapeCast S8x512 (Host.dynamicSlice S8x1x512 x (start k) sliceFits_S8x1024x512_S8x1x512) shapeCasts_S8x1x512_S8x512))) (broadcastInDim S8x512x16 ![0, 1, 2] bcast_S8x1x16_S8x512x16_0_1_2 (broadcastInDim S8x1x16 ![0, 2] bcast_S8x16_S8x1x16_0_2 (shapeCast S8x16 (Host.dynamicSlice S8x1x16 b (start k) sliceFits_S8x1024x16_S8x1x16) shapeCasts_S8x1x16_S8x16))))

theorem next_at {H E} {k : ℕ} (hk : k < 1024) (i : Fin 8) (d : Fin 512) (n : Fin 16) :
    next H E x b k (ix3 i d n) = H (ix3 i d n) * E (ix3 0 d n) + x (ix3 i ⟨k, hk⟩ d) * b (ix3 i ⟨k, hk⟩ n) := by
  unfold next
  pointwise [clamp hk]

/-- The row a step makes. -/
def made (H : FVec Ideal S8x512x16 .f32) (c : FVec Ideal S8x1024x16 .f32) (k : ℕ) : FVec Ideal S8x1x512 .f32 :=
  broadcastInDim S8x1x512 ![0, 2] bcast_S8x512_S8x1x512_0_2 (Host.reduceAdd (mulf H (broadcastInDim S8x512x16 ![0, 1, 2] bcast_S8x1x16_S8x512x16_0_1_2 (broadcastInDim S8x1x16 ![0, 2] bcast_S8x16_S8x1x16_0_2 (shapeCast S8x16 (Host.dynamicSlice S8x1x16 c (start k) sliceFits_S8x1024x16_S8x1x16) shapeCasts_S8x1x16_S8x16)))) (constant S_ .f32 0x00000000#32) reducesTo_S8x512x16_S8x512_d2 h_S_)

theorem made_at {H} {k : ℕ} (hk : k < 1024) (i : Fin 8) (o : Fin 1) (d : Fin 512) :
    made H c k (ix3 i o d) = ∑ n : Fin 16, H (ix3 i d n) * c (ix3 i ⟨k, hk⟩ n) := by
  unfold made
  pointwise [clamp hk]

theorem cnt_succ (k : ℕ) : id (addi (cnt k) (constantI S_ 32 1#32)) = cnt (k + 1) := by
  funext j
  show BitVec.ofNat 32 k + BitVec.ofNat 32 1 = BitVec.ofNat 32 (k + 1)
  rw [← BitVec.ofNat_add]

theorem Before.step {k : ℕ} (hk : k < 1024) {V : Valuation τ sig (Elt Ideal)} (s : Before x a b c k V) : Before x a b c (k + 1) (STEP V) := by
  have hn : res_main_while0b_v37 V = next (V (Proc.devRef .tc main_v8_6)) (V (Proc.devRef .tc main_v8_3)) x b k := by
    unfold res_main_while0b_v37
    rw [s.now, s.seq, s.inp]
    rfl
  have hs : ∀ i d n, res_main_while0b_v37 V (ix3 i d n) = state x a b i d n (k + 1) := fun i d n => by
    rw [hn]
    refine (next_at hk i d n).trans ?_
    rw [s.mem, s.dec, state_succ hk]
  refine ⟨(STEP_main_v8_0 V).trans s.seq, (STEP_main_v8_1 V).trans s.inp, (STEP_main_v8_2 V).trans s.out, fun o d n => ?_, ?_, fun i d n => ?_, fun i t d ht => ?_⟩
  · rw [STEP_main_v8_3]; exact s.dec o d n
  · rw [STEP_main_v8_5, step_main_v8_5, s.now]; exact cnt_succ k
  · rw [STEP_main_v8_6]; exact hs i d n
  · have hy : STEP V (Proc.devRef .tc main_v8_7) = Host.dynamicUpdateSlice (V (Proc.devRef .tc main_v8_7)) (made (res_main_while0b_v37 V) c k) (start k) updateFits_S8x1024x512_S8x1x512 := by
      rw [STEP_main_v8_7]
      unfold step_main_v8_7
      rw [s.now, s.out]
      rfl
    rw [hy]
    refine (update_at hk _ _ _ i t d).trans ?_
    split
    · rename_i e
      refine (made_at hk i 0 d).trans (Finset.sum_congr rfl fun n _ => ?_)
      rw [hs, e, show (⟨k, hk⟩ : Fin 1024) = t from Fin.ext e.symm]
    · exact s.res i t d (by omega)

theorem Before.iterate {V : Valuation τ sig (Elt Ideal)} (s : Before x a b c 0 V) : ∀ k ≤ 1024, Before x a b c k (STEP^[k] V)
  | 0, _ => s
  | k + 1, hk => by
    rw [Function.iterate_succ_apply']
    exact (Before.iterate s k (by omega)).step (by omega)

variable (m : (ℓ : Loc nD τ sig) → Buf (Elt Ideal) ℓ) (q : Dev nD)

/-- The arguments, and the layer over them. -/
abbrev argX : S8x1024x512.Idx → EReal := m ((q.tc : Thread nD τ).loc main_arg0)
abbrev argA : S512x16.Idx → EReal := m ((q.tc : Thread nD τ).loc main_arg1)
abbrev argB : S8x1024x16.Idx → EReal := m ((q.tc : Thread nD τ).loc main_arg2)
abbrev argC : S8x1024x16.Idx → EReal := m ((q.tc : Thread nD τ).loc main_arg3)

theorem spread_at (v : FVec Ideal S512x16 .f32) (o : Fin 1) (d : Fin 512) (n : Fin 16) :
    broadcastInDim S1x512x16 ![1, 2] bcast_S512x16_S1x512x16_1_2 v (ix3 o d n) = v (ix2 d n) := by
  pointwise

theorem at_entry : Before (argX m q) (argA m q) (argB m q) (argC m q) 0 (entryContents preI m q) := by
  refine ⟨?_, ?_, ?_, fun o d n => ?_, ?_, fun i d n => ?_, fun i t d ht => absurd ht (Nat.not_lt_zero _)⟩
  all_goals simp only [entryContents, afterL_cons, afterL_nil]; after_reads_simp
  · rfl
  · rfl
  · rfl
  · exact (spread_at _ o d n).trans rfl
  · rfl
  · exact Ideal.ofBits_zero_f32

theorem out_at (i : Fin 8) (t : Fin 1024) (d : Fin 512) :
    out_main_v9 (STEP^[1024] (entryContents preI m q)) (ix3 i t d) = layer (argX m q) (argA m q) (argB m q) (argC m q) i t d :=
  ((at_entry m q).iterate 1024 le_rfl).res i t d t.isLt

end Cert.ReferenceIdeal.Layer

end
-- ==== Proof.Agree.lean ====
/- The devices' halves and columns are the layer's blocks. -/
module

public import proofs.«01_k».proof.Defs
public import proofs.«01_k».proof.Proof.KernelIdeal.Whole
public import proofs.«01_k».proof.Proof.KernelIdeal.Operands
public import proofs.«01_k».proof.Proof.KernelIdeal.Sums
public import proofs.«01_k».proof.Proof.Layer
public import proofs.«01_k».proof.Proof.Frames

@[expose] public section

set_option maxRecDepth 16384

noncomputable section

namespace Cert.Agree

open Idealize.ShloMosaic Idealize.ShloMosaic.TcCoe Idealize.SL.Sem Cert.Spec
open Cert.KernelIdeal Cert.KernelIdeal.Gen Cert.KernelIdeal.Scan

/-- The step of the whole sequence that is step `s` of a device's half, and the feature of the whole that is feature `d`
    of its column. -/
def time (c : Dev nD) (s : Fin 512) : Fin 1024 := ⟨c.val % 2 * 512 + s.val, by omega⟩
def feat (c : Dev nD) (d : Fin 256) : Fin 512 := ⟨c.val / 2 * 256 + d.val, by have := first_lt c; omega⟩

theorem feat_py (c : Dev nD) (d : Fin 256) : feat (py c) d = feat c d := by
  refine Fin.ext (congrArg (· * 256 + d.val) ?_)
  revert c; decide

variable (m : (ℓ : Loc nD τ sig) → Buf (Elt Ideal) ℓ)
  (X : (⟨3, ![8, 1024, 512]⟩ : Shape).Idx → EReal) (A : (⟨2, ![512, 16]⟩ : Shape).Idx → EReal) (B C : (⟨3, ![8, 1024, 16]⟩ : Shape).Idx → EReal)

/-- The devices hold the whole arrays' halves, and no decay's logarithm is the top. -/
structure Dealt : Prop where
  x : ∀ (c : Dev nD) i s d, m (c, Proc.devRef .tc main_arg0) (ix3 i s d) = X (ix3 i (time c s) d)
  a : ∀ (c : Dev nD) i, m (c, Proc.devRef .tc main_arg1) i = A i
  b : ∀ (c : Dev nD) i s n, m (c, Proc.devRef .tc main_arg2) (ix3 i s n) = B (ix3 i (time c s) n)
  c : ∀ (c : Dev nD) i s n, m (c, Proc.devRef .tc main_arg3) (ix3 i s n) = C (ix3 i (time c s) n)
  lt : ∀ i, A i < ⊤

variable {m X A B C} (D : Dealt m X A B C)
include D

theorem Dealt.decay (c : Dev nD) (n : Fin 16) (d : Fin 256) : (stg m c).a (ix2 n d) = Ideal.exp (A (ix2 (feat c d) n)) := by
  rw [a_at c m, D.a]; rfl

theorem Dealt.decay_nonneg (c : Dev nD) (n : Fin 16) (d : Fin 256) : 0 ≤ (stg m c).a (ix2 n d) := by
  rw [D.decay]; exact exp_nonneg _

theorem Dealt.decay_ne_top (c : Dev nD) (n : Fin 16) (d : Fin 256) : (stg m c).a (ix2 n d) ≠ ⊤ := by
  rw [D.decay]; exact exp_ne_top (D.lt _)

theorem Dealt.decay_block (c : Dev nD) (n : Fin 16) (d : Fin 256) : (stg m c).a16 (ix2 n d) = (stg m c).a (ix2 n d) ^ 16 := by
  rw [D.decay, ← exp_sixteen (D.lt _), a16_at c m, D.a]; rfl

theorem Dealt.steps (c : Dev nD) (b : Fin 8) (n : Fin 16) (d : Fin 256) {τ : ℕ} (hτ : τ < 512) :
    (stg m c).steps b n d τ = inc X B b (feat c d) n (c.val % 2 * 512 + τ) := by
  have hk : τ / 16 < 32 := by omega
  unfold Stage.steps Stage.u
  rw [dif_pos hk, x_at, b_at, D.x, D.b, inc, dif_pos (by omega)]
  have e : time c ⟨16 * (τ / 16) + τ % 16, by omega⟩ = ⟨c.val % 2 * 512 + τ, by omega⟩ := Fin.ext (by simp only [time]; omega)
  rw [← e]; rfl

theorem Dealt.at' (c : Dev nD) {H : FVec Ideal S8x16x256 .f32} (b : Fin 8) (n : Fin 16) (d : Fin 256)
    (hH : H (ix3 b n d) = state X A B b (feat c d) n (c.val % 2 * 512)) {τ : ℕ} (hτ : τ ≤ 512) :
    (stg m c).at' H b n d τ = state X A B b (feat c d) n (c.val % 2 * 512 + τ) := by
  unfold Stage.at' state
  rw [scan_add, hH, D.decay]
  exact scan_congr fun t ht => D.steps c b n d (by omega)

/-- The state a device starts from. -/
theorem Dealt.hIn (c : Dev nD) (b : Fin 8) (n : Fin 16) (d : Fin 256) :
    hIn (stg m) c (ix3 b n d) = state X A B b (feat c d) n (c.val % 2 * 512) := by
  have hz : k0_pay1 (F := Ideal) (ix3 b n d) = 0 := Ideal.ofBits_zero_f32
  by_cases hf : First c
  · rw [Scan.hIn, if_pos hf, hz, show c.val % 2 = 0 from hf]; rfl
  · have hp : (py c).val % 2 = 0 := (first_py c).mpr hf
    have h1 : c.val % 2 = 1 := by have : ¬ c.val % 2 = 0 := hf; omega
    rw [Scan.hIn, if_neg hf, Stage.stop_at _ _ (D.decay_nonneg _) (D.decay_ne_top _) (D.decay_block _),
      D.at' (py c) b n d (by rw [hz, hp]; rfl) le_rfl, feat_py, hp, h1]

/-- What a device makes is the layer at its steps and features. -/
theorem Dealt.mineF (c : Dev nD) (b : Fin 8) (k : Fin 32) (t : Fin 16) (d : Fin 256) :
    mineF (stg m) c (ix4 b k t d) = layer X A B C b (time c ⟨16 * k.val + t.val, by omega⟩) (feat c d) := by
  rw [Scan.mineF, Stage.out_at _ _ (D.decay_nonneg _) (D.decay_ne_top _) (D.decay_block _)]
  refine Finset.sum_congr rfl fun n _ => ?_
  rw [D.at' c b n d (D.hIn c b n d) (by omega), c_at, D.c]
  rfl

/-- The kernel's result is the layer's rows of the device's half. -/
theorem Dealt.result (c : Dev nD) (b : Fin 8) (s d : Fin 512) :
    V4 m (outs m) c (Proc.devRef .tc main_v37) (ix3 b s d) = layer X A B C b (time c s) d := by
  have e : V4 m (outs m) c (Proc.devRef .tc main_v37) (ix3 b s d) =
      (if c.val / 2 = d.val / 256 then Scan.mineF (stg m) c else Scan.mineF (stg m) (px c)) (ix4 b ⟨s.val / 16, by omega⟩ ⟨s.val % 16, by omega⟩ ⟨d.val % 256, by omega⟩) := by
    rw [(v37_eq m c (outs m)).trans (congrArg₂ (cols c) (outs_mine m 2 c) (outs_theirs m 2 c))]
    exact joined c _ _ b s d
  rw [e]
  have hc := c.isLt
  simp only [nD] at hc
  have hs : 16 * (s.val / 16) + s.val % 16 = s.val := by omega
  split
  · rename_i h
    rw [D.mineF]
    exact congrArg₂ (layer X A B C b) (Fin.ext (by simp only [time, hs])) (Fin.ext (by simp only [feat]; omega))
  · rename_i h
    rw [D.mineF]
    have h2 : (px c).val = (c.val + 2) % 4 := rfl
    exact congrArg₂ (layer X A B C b) (Fin.ext (by simp only [time, hs, h2]; omega)) (Fin.ext (by simp only [feat, h2]; omega))

omit D

/-- The top the precondition compares with. -/
theorem top_bits : Ideal.ofBits .f32 0x7F800000#32 = ⊤ := by
  simp [Ideal.ofBits, Ideal.ieee]

theorem below_top [Cert.Pre_decay_below_top_KernelIdeal.Facts] {x a b c} (h : Cert.Pre_decay_below_top_KernelIdeal.fn (F := Ideal) x a b c = fun _ => 1#1) (i) :
    (a i : EReal) < ⊤ := by
  have hi := congrFun h i
  by_contra hn
  rw [← top_bits] at hn
  have : Cert.Pre_decay_below_top_KernelIdeal.fn (F := Ideal) x a b c i = 0#1 := by
    show BitVec.ofBool (decide (a i < Ideal.ofBits .f32 0x7F800000#32)) = 0#1
    rw [decide_eq_false hn]
    rfl
  rw [this] at hi
  exact absurd hi (by decide)

/-! ## The blocks the devices hold -/

/-- Where a step of a device's half is in the whole: the block's own axes, and the half's first step added. -/
theorem block_at {α : Type} {p : ℕ} (c : Dev nD) (v : (⟨3, ![8, 1024, p]⟩ : Shape).Idx → α)
    (h : Layout.TilesN ⟨3, ![8, 512, p]⟩ ⟨3, ![8, 1024, p]⟩ fun b => Layout.cutSize [2, 2] ((![[], [1], []] : Fin 3 → List ℕ) b)) (i : Fin 8) (s : Fin 512) (d : Fin p) :
    Layout.blockN ⟨3, ![8, 512, p]⟩ ⟨3, ![8, 1024, p]⟩ (Layout.meshBlock [2, 2] ![[], [1], []] c) v h (ix3 i s d) = v (ix3 i (time c s) d) := by
  refine congrArg v (funext fun j => Fin.ext ?_)
  rw [Layout.TilesN.idx_val, Layout.meshBlock_val]
  have h0 : Layout.meshLin [2, 2] c.val [] = 0 := rfl
  have h1 : Layout.meshLin [2, 2] c.val [1] = c.val % 2 := by revert c; decide
  fin_cases j
  · show Layout.meshLin [2, 2] c.val [] * 8 + i.val = i.val
    rw [h0]; omega
  · show Layout.meshLin [2, 2] c.val [1] * 512 + s.val = c.val % 2 * 512 + s.val
    rw [h1]
  · show Layout.meshLin [2, 2] c.val [] * p + d.val = d.val
    rw [h0]; omega

theorem kernelIdeal_referenceIdeal : algebraic_KernelIdeal_ReferenceIdeal_pre_decay_below_top_KernelIdeal
    (hKernelIdeal := Cert.KernelIdeal.Gen.facts) (hReferenceIdeal := Cert.ReferenceIdeal.Gen.facts)
    (hPre_decay_below_top_KernelIdeal := Cert.Frames.below_kernelIdeal) := by
  intro m g m' g' hp hd
  have D : Dealt m (ReferenceIdeal.Layer.argX m' 0) (ReferenceIdeal.Layer.argA m' 0) (ReferenceIdeal.Layer.argB m' 0) (ReferenceIdeal.Layer.argC m' 0) := by
    refine ⟨fun c i s d => ?_, fun c i => ?_, fun c i s n => ?_, fun c i s n => ?_, fun i => ?_⟩
    · exact (congrFun (hd c).1 _).trans (block_at c _ _ i s d)
    · exact congrFun (hd c).2.1 i
    · exact (congrFun (hd c).2.2.1 _).trans (block_at c _ _ i s n)
    · exact (congrFun (hd c).2.2.2 _).trans (block_at c _ _ i s n)
    · have hl := @below_top Cert.Frames.below_kernelIdeal _ _ _ _ (hp 0) i
      rw [(hd 0).2.1] at hl
      exact hl
  refine ⟨_, (θ_run _ _ _).mono (fun r h c => ?_) (Cert.KernelIdeal.Scan.run_main m g),
    (θ_run _ _ _).mono (fun r h => h 0) (Cert.ReferenceIdeal.Value.run m' g')⟩
  refine ⟨(h.1 c).1.trans (funext fun j => ?_), (h.1 c).2⟩
  obtain ⟨i, s, d, rfl⟩ : ∃ (i : Fin 8) (s d : Fin 512), j = ix3 i s d := ⟨j 0, j 1, j 2, eq_ix3 j⟩
  exact (D.result c i s d).trans ((ReferenceIdeal.Layer.out_at m' 0 i (time c s) d).symm.trans (block_at c _ _ i s d).symm)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.below_kernelIdeal, Cert.Frames.below_referenceIdeal,
  Cert.Frames.kernel, Cert.Frames.kernelIdeal, fun m g _ => Cert.Frames.kernelIdeal m g trivial,
  Cert.Frames.referenceIdeal, fun m g _ => Cert.Frames.referenceIdeal m g trivial, trivial, Cert.Agree.kernelIdeal_referenceIdeal⟩

end Cert.Proof

end
